-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v244) = v0 c
          ∧ r.2.mem ((c.tc : Thread Cert.ReferenceIdeal.nD Cert.ReferenceIdeal.τ).loc Cert.ReferenceIdeal.main_v249) = v1 c
          ∧ r.2.mem ((c.tc : Thread Cert.ReferenceIdeal.nD Cert.ReferenceIdeal.τ).loc Cert.ReferenceIdeal.main_v254) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S256x256x3 : Shape := ⟨3, ![256, 256, 3]⟩
abbrev S256 : Shape := ⟨1, ![256]⟩
abbrev S20x3072 : Shape := ⟨2, ![20, 3072]⟩
abbrev S20 : Shape := ⟨1, ![20]⟩
abbrev S20x6144 : Shape := ⟨2, ![20, 6144]⟩
abbrev S20x12288 : Shape := ⟨2, ![20, 12288]⟩
abbrev S4x512x1 : Shape := ⟨3, ![4, 512, 1]⟩
abbrev S3x256x256 : Shape := ⟨3, ![3, 256, 256]⟩
abbrev S20x12x256 : Shape := ⟨3, ![20, 12, 256]⟩
abbrev S12x256x20 : Shape := ⟨3, ![12, 256, 20]⟩
abbrev S1x256 : Shape := ⟨2, ![1, 256]⟩
abbrev S1x20 : Shape := ⟨2, ![1, 20]⟩
abbrev S4x512x20 : Shape := ⟨3, ![4, 512, 20]⟩
abbrev S1x512x256 : Shape := ⟨3, ![1, 512, 256]⟩
abbrev S1x512x1 : Shape := ⟨3, ![1, 512, 1]⟩
abbrev S1x512x20 : Shape := ⟨3, ![1, 512, 20]⟩
abbrev S560x256 : Shape := ⟨2, ![560, 256]⟩
abbrev S512x256 : Shape := ⟨2, ![512, 256]⟩
abbrev S512x20 : Shape := ⟨2, ![512, 20]⟩
abbrev S24x256 : Shape := ⟨2, ![24, 256]⟩
abbrev S1x256x256 : Shape := ⟨3, ![1, 256, 256]⟩
abbrev S256x256 : Shape := ⟨2, ![256, 256]⟩
abbrev S512x1 : Shape := ⟨2, ![512, 1]⟩
abbrev S1x256x20 : Shape := ⟨3, ![1, 256, 20]⟩
abbrev S256x20 : Shape := ⟨2, ![256, 20]⟩
abbrev S20x24x256 : Shape := ⟨3, ![20, 24, 256]⟩
abbrev S24x256x20 : Shape := ⟨3, ![24, 256, 20]⟩
abbrev S20x48x256 : Shape := ⟨3, ![20, 48, 256]⟩
abbrev S48x256x20 : Shape := ⟨3, ![48, 256, 20]⟩
abbrev S1x4x512x20 : Shape := ⟨4, ![1, 4, 512, 20]⟩
abbrev S3x4x512x20 : Shape := ⟨4, ![3, 4, 512, 20]⟩
abbrev S_ : Shape := ⟨0, ![]⟩
abbrev S3x4x512 : Shape := ⟨3, ![3, 4, 512]⟩
abbrev S3x4x512x1 : Shape := ⟨4, ![3, 4, 512, 1]⟩
abbrev S3x4x256x2 : Shape := ⟨4, ![3, 4, 256, 2]⟩
abbrev S3x4x256x20 : Shape := ⟨4, ![3, 4, 256, 20]⟩
abbrev S1x1x512x1 : Shape := ⟨4, ![1, 1, 512, 1]⟩
abbrev S1x1x512x20 : Shape := ⟨4, ![1, 1, 512, 20]⟩
abbrev S1x1x256x2 : Shape := ⟨4, ![1, 1, 256, 2]⟩
abbrev S1x1x256x20 : Shape := ⟨4, ![1, 1, 256, 20]⟩
abbrev S1x512 : Shape := ⟨2, ![1, 512]⟩
abbrev S512x512 : Shape := ⟨2, ![512, 512]⟩
abbrev S512 : Shape := ⟨1, ![512]⟩
abbrev S256x1 : Shape := ⟨2, ![256, 1]⟩
abbrev S256x512 : Shape := ⟨2, ![256, 512]⟩
abbrev S512x2 : Shape := ⟨2, ![512, 2]⟩
abbrev S256x2 : Shape := ⟨2, ![256, 2]⟩

abbrev nBuf : Space → Nat
  | .hbm => 57
  | .vmem => 70
  | .smem => 0
  | _ => 0

abbrev bufTy : (tb : Table) → Fin (tcTables nBuf tb) → BufTy
  | .hbm, ⟨0, _⟩ => ⟨S4x512x256, .f32⟩
  | .hbm, ⟨1, _⟩ => ⟨S256x256x3, .f32⟩
  | .hbm, ⟨2, _⟩ => ⟨S256, .f32⟩
  | .hbm, ⟨3, _⟩ => ⟨S256x256x3, .f32⟩
  | .hbm, ⟨4, _⟩ => ⟨S256, .f32⟩
  | .hbm, ⟨5, _⟩ => ⟨S20x3072, .f32⟩
  | .hbm, ⟨6, _⟩ => ⟨S20, .f32⟩
  | .hbm, ⟨7, _⟩ => ⟨S256x256x3, .f32⟩
  | .hbm, ⟨8, _⟩ => ⟨S256, .f32⟩
  | .hbm, ⟨9, _⟩ => ⟨S256x256x3, .f32⟩
  | .hbm, ⟨10, _⟩ => ⟨S256, .f32⟩
  | .hbm, ⟨11, _⟩ => ⟨S20x6144, .f32⟩
  | .hbm, ⟨12, _⟩ => ⟨S20, .f32⟩
  | .hbm, ⟨13, _⟩ => ⟨S256x256x3, .f32⟩
  | .hbm, ⟨14, _⟩ => ⟨S256, .f32⟩
  | .hbm, ⟨15, _⟩ => ⟨S256x256x3, .f32⟩
  | .hbm, ⟨16, _⟩ => ⟨S256, .f32⟩
  | .hbm, ⟨17, _⟩ => ⟨S20x12288, .f32⟩
  | .hbm, ⟨18, _⟩ => ⟨S20, .f32⟩
  | .hbm, ⟨19, _⟩ => ⟨S4x512x1, .f32⟩
  | .hbm, ⟨20, _⟩ => ⟨S4x512x1, .f32⟩
  | .hbm, ⟨21, _⟩ => ⟨S4x512x1, .f32⟩
  | .hbm, ⟨22, _⟩ => ⟨S4x512x1, .f32⟩
  | .hbm, ⟨23, _⟩ => ⟨S3x256x256, .f32⟩
  | .hbm, ⟨24, _⟩ => ⟨S3x256x256, .f32⟩
  | .hbm, ⟨25, _⟩ => ⟨S20x12x256, .f32⟩
  | .hbm, ⟨26, _⟩ => ⟨S12x256x20, .f32⟩
  | .hbm, ⟨27, _⟩ => ⟨S1x256, .f32⟩
  | .hbm, ⟨28, _⟩ => ⟨S1x256, .f32⟩
  | .hbm, ⟨29, _⟩ => ⟨S1x20, .f32⟩
  | .hbm, ⟨30, _⟩ => ⟨S4x512x20, .f32⟩
  | .hbm, ⟨31, _⟩ => ⟨S3x256x256, .f32⟩
  | .hbm, ⟨32, _⟩ => ⟨S3x256x256, .f32⟩
  | .hbm, ⟨33, _⟩ => ⟨S20x24x256, .f32⟩
  | .hbm, ⟨34, _⟩ => ⟨S24x256x20, .f32⟩
  | .hbm, ⟨35, _⟩ => ⟨S1x256, .f32⟩
  | .hbm, ⟨36, _⟩ => ⟨S1x256, .f32⟩
  | .hbm, ⟨37, _⟩ => ⟨S1x20, .f32⟩
  | .hbm, ⟨38, _⟩ => ⟨S4x512x20, .f32⟩
  | .hbm, ⟨39, _⟩ => ⟨S3x256x256, .f32⟩
  | .hbm, ⟨40, _⟩ => ⟨S3x256x256, .f32⟩
  | .hbm, ⟨41, _⟩ => ⟨S20x48x256, .f32⟩
  | .hbm, ⟨42, _⟩ => ⟨S48x256x20, .f32⟩
  | .hbm, ⟨43, _⟩ => ⟨S1x256, .f32⟩
  | .hbm, ⟨44, _⟩ => ⟨S1x256, .f32⟩
  | .hbm, ⟨45, _⟩ => ⟨S1x20, .f32⟩
  | .hbm, ⟨46, _⟩ => ⟨S4x512x20, .f32⟩
  | .hbm, ⟨47, _⟩ => ⟨S1x4x512x20, .f32⟩
  | .hbm, ⟨48, _⟩ => ⟨S1x4x512x20, .f32⟩
  | .hbm, ⟨49, _⟩ => ⟨S1x4x512x20, .f32⟩
  | .hbm, ⟨50, _⟩ => ⟨S3x4x512x20, .f32⟩
  | .hbm, ⟨51, _⟩ => ⟨S_, .f32⟩
  | .hbm, ⟨52, _⟩ => ⟨S3x4x512, .f32⟩
  | .hbm, ⟨53, _⟩ => ⟨S3x4x512x1, .f32⟩
  | .hbm, ⟨54, _⟩ => ⟨S3x4x256x2, .i32⟩
  | .hbm, ⟨55, _⟩ => ⟨S3x4x256x2, .i32⟩
  | .hbm, ⟨56, _⟩ => ⟨S3x4x256x20, .f32⟩
  | .local _ .vmem, ⟨0, _⟩ => ⟨S1x512x256, .f32⟩
  | .local _ .vmem, ⟨1, _⟩ => ⟨S1x512x256, .f32⟩
  | .local _ .vmem, ⟨2, _⟩ => ⟨S3x256x256, .f32⟩
  | .local _ .vmem, ⟨3, _⟩ => ⟨S1x256, .f32⟩
  | .local _ .vmem, ⟨4, _⟩ => ⟨S3x256x256, .f32⟩
  | .local _ .vmem, ⟨5, _⟩ => ⟨S1x256, .f32⟩
  | .local _ .vmem, ⟨6, _⟩ => ⟨S12x256x20, .f32⟩
  | .local _ .vmem, ⟨7, _⟩ => ⟨S1x20, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x512x20, .f32⟩
  | .local _ .vmem, ⟨13, _⟩ => ⟨S1x512x20, .f32⟩
  | .local _ .vmem, ⟨14, _⟩ => ⟨S560x256, .f32⟩
  | .local _ .vmem, ⟨15, _⟩ => ⟨S560x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x20, .f32⟩
  | .local _ .vmem, ⟨20, _⟩ => ⟨S1x512x256, .f32⟩
  | .local _ .vmem, ⟨21, _⟩ => ⟨S1x512x256, .f32⟩
  | .local _ .vmem, ⟨22, _⟩ => ⟨S3x256x256, .f32⟩
  | .local _ .vmem, ⟨23, _⟩ => ⟨S1x256, .f32⟩
  | .local _ .vmem, ⟨24, _⟩ => ⟨S3x256x256, .f32⟩
  | .local _ .vmem, ⟨25, _⟩ => ⟨S1x256, .f32⟩
  | .local _ .vmem, ⟨26, _⟩ => ⟨S24x256x20, .f32⟩
  | .local _ .vmem, ⟨27, _⟩ => ⟨S1x20, .f32⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S1x512x20, .f32⟩
  | .local _ .vmem, ⟨33, _⟩ => ⟨S1x512x20, .f32⟩
  | .local _ .vmem, ⟨34, _⟩ => ⟨S560x256, .f32⟩
  | .local _ .vmem, ⟨35, _⟩ => ⟨S560x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x20, .f32⟩
  | .local _ .vmem, ⟨40, _⟩ => ⟨S1x512x256, .f32⟩
  | .local _ .vmem, ⟨41, _⟩ => ⟨S1x512x256, .f32⟩
  | .local _ .vmem, ⟨42, _⟩ => ⟨S3x256x256, .f32⟩
  | .local _ .vmem, ⟨43, _⟩ => ⟨S1x256, .f32⟩
  | .local _ .vmem, ⟨44, _⟩ => ⟨S3x256x256, .f32⟩
  | .local _ .vmem, ⟨45, _⟩ => ⟨S1x256, .f32⟩
  | .local _ .vmem, ⟨46, _⟩ => ⟨S48x256x20, .f32⟩
  | .local _ .vmem, ⟨47, _⟩ => ⟨S1x20, .f32⟩
  | .local _ .vmem, ⟨48, _⟩ => ⟨S1x512x1, .f32⟩
  | .local _ .vmem, ⟨49, _⟩ => ⟨S1x512x1, .f32⟩
  | .local _ .vmem, ⟨50, _⟩ => ⟨S1x512x1, .f32⟩
  | .local _ .vmem, ⟨51, _⟩ => ⟨S1x512x1, .f32⟩
  | .local _ .vmem, ⟨52, _⟩ => ⟨S1x512x20, .f32⟩
  | .local _ .vmem, ⟨53, _⟩ => ⟨S1x512x20, .f32⟩
  | .local _ .vmem, ⟨54, _⟩ => ⟨S560x256, .f32⟩
  | .local _ .vmem, ⟨55, _⟩ => ⟨S560x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x20, .f32⟩
  | .local _ .vmem, ⟨60, _⟩ => ⟨S1x1x512x1, .f32⟩
  | .local _ .vmem, ⟨61, _⟩ => ⟨S1x1x512x1, .f32⟩
  | .local _ .vmem, ⟨62, _⟩ => ⟨S1x1x512x20, .f32⟩
  | .local _ .vmem, ⟨63, _⟩ => ⟨S1x1x512x20, .f32⟩
  | .local _ .vmem, ⟨64, _⟩ => ⟨S1x1x256x2, .i32⟩
  | .local _ .vmem, ⟨65, _⟩ => ⟨S1x1x256x2, .i32⟩
  | .local _ .vmem, ⟨66, _⟩ => ⟨S1x1x256x2, .i32⟩
  | .local _ .vmem, ⟨67, _⟩ => ⟨S1x1x256x2, .i32⟩
  | .local _ .vmem, ⟨68, _⟩ => ⟨S1x1x256x20, .f32⟩
  | .local _ .vmem, ⟨69, _⟩ => ⟨S1x1x256x20, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_cst_0 : Ref sig .tc := ⟨.hbm, 20, rfl⟩
abbrev main_cst_1 : Ref sig .tc := ⟨.hbm, 21, rfl⟩
abbrev main_cst_2 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_v30_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc1_scratch4 : Ref sig .tc := ⟨.vmem, 38, rfl⟩
abbrev cc1_scratch5 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg2_0 : Ref sig .tc := ⟨.vmem, 43, rfl⟩
abbrev cc2_stg3_0 : Ref sig .tc := ⟨.vmem, 44, rfl⟩
abbrev cc2_stg4_0 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg7_1 : Ref sig .tc := ⟨.vmem, 49, rfl⟩
abbrev cc2_stg8_0 : Ref sig .tc := ⟨.vmem, 50, rfl⟩
abbrev cc2_stg8_1 : Ref sig .tc := ⟨.vmem, 51, rfl⟩
abbrev cc2_stg9_0 : Ref sig .tc := ⟨.vmem, 52, rfl⟩
abbrev cc2_stg9_1 : Ref sig .tc := ⟨.vmem, 53, rfl⟩
abbrev cc2_scratch0 : Ref sig .tc := ⟨.vmem, 54, rfl⟩
abbrev cc2_scratch1 : Ref sig .tc := ⟨.vmem, 55, rfl⟩
abbrev cc2_scratch2 : Ref sig .tc := ⟨.vmem, 56, rfl⟩
abbrev cc2_scratch3 : Ref sig .tc := ⟨.vmem, 57, rfl⟩
abbrev cc2_scratch4 : Ref sig .tc := ⟨.vmem, 58, rfl⟩
abbrev cc2_scratch5 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg1_1 : Ref sig .tc := ⟨.vmem, 63, rfl⟩
abbrev cc3_stg2_0 : Ref sig .tc := ⟨.vmem, 64, rfl⟩
abbrev cc3_stg2_1 : Ref sig .tc := ⟨.vmem, 65, rfl⟩
abbrev cc3_stg3_0 : Ref sig .tc := ⟨.vmem, 66, rfl⟩
abbrev cc3_stg3_1 : Ref sig .tc := ⟨.vmem, 67, rfl⟩
abbrev cc3_stg4_0 : Ref sig .tc := ⟨.vmem, 68, rfl⟩
abbrev cc3_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x256x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x20 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S24x256x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x512x20 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S48x256x20 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x512x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x512x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x512x20 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨2, ![3, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x512x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x1x512x20 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x256x2 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x256x2 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x256x20 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S4x512x256 : Shape := ⟨3, ![4, 512, 256]⟩
abbrev S256x256x3 : Shape := ⟨3, ![256, 256, 3]⟩
abbrev S256 : Shape := ⟨1, ![256]⟩
abbrev S20x3072 : Shape := ⟨2, ![20, 3072]⟩
abbrev S20 : Shape := ⟨1, ![20]⟩
abbrev S20x6144 : Shape := ⟨2, ![20, 6144]⟩
abbrev S20x12288 : Shape := ⟨2, ![20, 12288]⟩
abbrev S_ : Shape := ⟨0, ![]⟩
abbrev S4x560x256 : Shape := ⟨3, ![4, 560, 256]⟩
abbrev S256x256x1 : Shape := ⟨3, ![256, 256, 1]⟩
abbrev S256x256 : Shape := ⟨2, ![256, 256]⟩
abbrev S1x1x256 : Shape := ⟨3, ![1, 1, 256]⟩
abbrev S512 : Shape := ⟨1, ![512]⟩
abbrev S512x1 : Shape := ⟨2, ![512, 1]⟩
abbrev S12 : Shape := ⟨1, ![12]⟩
abbrev S1x12 : Shape := ⟨2, ![1, 12]⟩
abbrev S512x12 : Shape := ⟨2, ![512, 12]⟩
abbrev S512x12x1 : Shape := ⟨3, ![512, 12, 1]⟩
abbrev S4x512x12x256 : Shape := ⟨4, ![4, 512, 12, 256]⟩
abbrev S4x512x3072 : Shape := ⟨3, ![4, 512, 3072]⟩
abbrev S4x512x20 : Shape := ⟨3, ![4, 512, 20]⟩
abbrev S1x1x20 : Shape := ⟨3, ![1, 1, 20]⟩
abbrev S24 : Shape := ⟨1, ![24]⟩
abbrev S1x24 : Shape := ⟨2, ![1, 24]⟩
abbrev S512x24 : Shape := ⟨2, ![512, 24]⟩
abbrev S512x24x1 : Shape := ⟨3, ![512, 24, 1]⟩
abbrev S4x512x24x256 : Shape := ⟨4, ![4, 512, 24, 256]⟩
abbrev S4x512x6144 : Shape := ⟨3, ![4, 512, 6144]⟩
abbrev S48 : Shape := ⟨1, ![48]⟩
abbrev S1x48 : Shape := ⟨2, ![1, 48]⟩
abbrev S512x48 : Shape := ⟨2, ![512, 48]⟩
abbrev S512x48x1 : Shape := ⟨3, ![512, 48, 1]⟩
abbrev S4x512x48x256 : Shape := ⟨4, ![4, 512, 48, 256]⟩
abbrev S4x512x12288 : Shape := ⟨3, ![4, 512, 12288]⟩
abbrev S1x4x512x20 : Shape := ⟨4, ![1, 4, 512, 20]⟩
abbrev S3x4x512x20 : Shape := ⟨4, ![3, 4, 512, 20]⟩
abbrev S3x4x512 : Shape := ⟨3, ![3, 4, 512]⟩
abbrev S512x2 : Shape := ⟨2, ![512, 2]⟩
abbrev S1x512x2 : Shape := ⟨3, ![1, 512, 2]⟩
abbrev S3x512x2 : Shape := ⟨3, ![3, 512, 2]⟩
abbrev S3x1x512x2 : Shape := ⟨4, ![3, 1, 512, 2]⟩
abbrev S3x4x512x2 : Shape := ⟨4, ![3, 4, 512, 2]⟩
abbrev S3x4x512x1 : Shape := ⟨4, ![3, 4, 512, 1]⟩
abbrev S3x4x128x2 : Shape := ⟨4, ![3, 4, 128, 2]⟩
abbrev S3x4x256x2 : Shape := ⟨4, ![3, 4, 256, 2]⟩
abbrev S3x4x128x20 : Shape := ⟨4, ![3, 4, 128, 20]⟩
abbrev S3x4x256x20 : Shape := ⟨4, ![3, 4, 256, 20]⟩

abbrev nBuf : Space → Nat
  | .hbm => 331
  | .vmem => 0
  | .smem => 0
  | _ => 0

abbrev hbmTy0_0 (i : Nat) : BufTy := match i % 128 with
  | 0 => ⟨S4x512x256, .f32⟩
  | 1 => ⟨S256x256x3, .f32⟩
  | 2 => ⟨S256, .f32⟩
  | 3 => ⟨S256x256x3, .f32⟩
  | 4 => ⟨S256, .f32⟩
  | 5 => ⟨S20x3072, .f32⟩
  | 6 => ⟨S20, .f32⟩
  | 7 => ⟨S256x256x3, .f32⟩
  | 8 => ⟨S256, .f32⟩
  | 9 => ⟨S256x256x3, .f32⟩
  | 10 => ⟨S256, .f32⟩
  | 11 => ⟨S20x6144, .f32⟩
  | 12 => ⟨S20, .f32⟩
  | 13 => ⟨S256x256x3, .f32⟩
  | 14 => ⟨S256, .f32⟩
  | 15 => ⟨S256x256x3, .f32⟩
  | 16 => ⟨S256, .f32⟩
  | 17 => ⟨S20x12288, .f32⟩
  | 18 => ⟨S20, .f32⟩
  | 19 => ⟨S_, .f32⟩
  | 20 => ⟨S_, .f32⟩
  | 21 => ⟨S4x512x256, .f32⟩
  | 22 => ⟨S_, .f32⟩
  | 23 => ⟨S4x560x256, .f32⟩
  | 24 => ⟨S4x512x256, .f32⟩
  | 25 => ⟨S256x256x1, .f32⟩
  | 26 => ⟨S256x256, .f32⟩
  | 27 => ⟨S4x512x256, .f32⟩
  | 28 => ⟨S4x512x256, .f32⟩
  | 29 => ⟨S256x256x1, .f32⟩
  | 30 => ⟨S256x256, .f32⟩
  | 31 => ⟨S4x512x256, .f32⟩
  | 32 => ⟨S4x512x256, .f32⟩
  | 33 => ⟨S256x256x1, .f32⟩
  | 34 => ⟨S256x256, .f32⟩
  | 35 => ⟨S4x512x256, .f32⟩
  | 36 => ⟨S4x512x256, .f32⟩
  | 37 => ⟨S4x512x256, .f32⟩
  | 38 => ⟨S1x1x256, .f32⟩
  | 39 => ⟨S4x512x256, .f32⟩
  | 40 => ⟨S4x512x256, .f32⟩
  | 41 => ⟨S_, .f32⟩
  | 42 => ⟨S4x560x256, .f32⟩
  | 43 => ⟨S4x512x256, .f32⟩
  | 44 => ⟨S256x256x1, .f32⟩
  | 45 => ⟨S256x256, .f32⟩
  | 46 => ⟨S4x512x256, .f32⟩
  | 47 => ⟨S4x512x256, .f32⟩
  | 48 => ⟨S256x256x1, .f32⟩
  | 49 => ⟨S256x256, .f32⟩
  | 50 => ⟨S4x512x256, .f32⟩
  | 51 => ⟨S4x512x256, .f32⟩
  | 52 => ⟨S256x256x1, .f32⟩
  | 53 => ⟨S256x256, .f32⟩
  | 54 => ⟨S4x512x256, .f32⟩
  | 55 => ⟨S4x512x256, .f32⟩
  | 56 => ⟨S4x512x256, .f32⟩
  | 57 => ⟨S1x1x256, .f32⟩
  | 58 => ⟨S4x512x256, .f32⟩
  | 59 => ⟨S4x512x256, .f32⟩
  | 60 => ⟨S512, .i32⟩
  | 61 => ⟨S_, .i32⟩
  | 62 => ⟨S512, .i32⟩
  | 63 => ⟨S512, .i32⟩
  | 64 => ⟨S_, .i32⟩
  | 65 => ⟨S512, .i32⟩
  | 66 => ⟨S512, .i32⟩
  | 67 => ⟨S512x1, .i32⟩
  | 68 => ⟨S12, .i32⟩
  | 69 => ⟨S1x12, .i32⟩
  | 70 => ⟨S512x12, .i32⟩
  | 71 => ⟨S512x12, .i32⟩
  | 72 => ⟨S512x12, .i32⟩
  | 73 => ⟨S_, .f32⟩
  | 74 => ⟨S4x560x256, .f32⟩
  | 75 => ⟨S512x12x1, .i32⟩
  | 76 => ⟨S4x512x12x256, .f32⟩
  | 77 => ⟨S4x512x3072, .f32⟩
  | 78 => ⟨S4x512x20, .f32⟩
  | 79 => ⟨S1x1x20, .f32⟩
  | 80 => ⟨S4x512x20, .f32⟩
  | 81 => ⟨S4x512x20, .f32⟩
  | 82 => ⟨S_, .f32⟩
  | 83 => ⟨S4x512x20, .f32⟩
  | 84 => ⟨S4x512x20, .f32⟩
  | 85 => ⟨S_, .f32⟩
  | 86 => ⟨S_, .f32⟩
  | 87 => ⟨S4x512x256, .f32⟩
  | 88 => ⟨S_, .f32⟩
  | 89 => ⟨S4x560x256, .f32⟩
  | 90 => ⟨S4x512x256, .f32⟩
  | 91 => ⟨S256x256x1, .f32⟩
  | 92 => ⟨S256x256, .f32⟩
  | 93 => ⟨S4x512x256, .f32⟩
  | 94 => ⟨S4x512x256, .f32⟩
  | 95 => ⟨S256x256x1, .f32⟩
  | 96 => ⟨S256x256, .f32⟩
  | 97 => ⟨S4x512x256, .f32⟩
  | 98 => ⟨S4x512x256, .f32⟩
  | 99 => ⟨S256x256x1, .f32⟩
  | 100 => ⟨S256x256, .f32⟩
  | 101 => ⟨S4x512x256, .f32⟩
  | 102 => ⟨S4x512x256, .f32⟩
  | 103 => ⟨S4x512x256, .f32⟩
  | 104 => ⟨S1x1x256, .f32⟩
  | 105 => ⟨S4x512x256, .f32⟩
  | 106 => ⟨S4x512x256, .f32⟩
  | 107 => ⟨S_, .f32⟩
  | 108 => ⟨S4x560x256, .f32⟩
  | 109 => ⟨S4x512x256, .f32⟩
  | 110 => ⟨S256x256x1, .f32⟩
  | 111 => ⟨S256x256, .f32⟩
  | 112 => ⟨S4x512x256, .f32⟩
  | 113 => ⟨S4x512x256, .f32⟩
  | 114 => ⟨S256x256x1, .f32⟩
  | 115 => ⟨S256x256, .f32⟩
  | 116 => ⟨S4x512x256, .f32⟩
  | 117 => ⟨S4x512x256, .f32⟩
  | 118 => ⟨S256x256x1, .f32⟩
  | 119 => ⟨S256x256, .f32⟩
  | 120 => ⟨S4x512x256, .f32⟩
  | 121 => ⟨S4x512x256, .f32⟩
  | 122 => ⟨S4x512x256, .f32⟩
  | 123 => ⟨S1x1x256, .f32⟩
  | 124 => ⟨S4x512x256, .f32⟩
  | 125 => ⟨S4x512x256, .f32⟩
  | 126 => ⟨S512, .i32⟩
  | 127 => ⟨S_, .i32⟩
  | _ => ⟨S4x512x256, .f32⟩

abbrev hbmTy0_1 (i : Nat) : BufTy := match i % 128 with
  | 0 => ⟨S512, .i32⟩
  | 1 => ⟨S512, .i32⟩
  | 2 => ⟨S_, .i32⟩
  | 3 => ⟨S512, .i32⟩
  | 4 => ⟨S512, .i32⟩
  | 5 => ⟨S512x1, .i32⟩
  | 6 => ⟨S24, .i32⟩
  | 7 => ⟨S1x24, .i32⟩
  | 8 => ⟨S512x24, .i32⟩
  | 9 => ⟨S512x24, .i32⟩
  | 10 => ⟨S512x24, .i32⟩
  | 11 => ⟨S_, .f32⟩
  | 12 => ⟨S4x560x256, .f32⟩
  | 13 => ⟨S512x24x1, .i32⟩
  | 14 => ⟨S4x512x24x256, .f32⟩
  | 15 => ⟨S4x512x6144, .f32⟩
  | 16 => ⟨S4x512x20, .f32⟩
  | 17 => ⟨S1x1x20, .f32⟩
  | 18 => ⟨S4x512x20, .f32⟩
  | 19 => ⟨S4x512x20, .f32⟩
  | 20 => ⟨S_, .f32⟩
  | 21 => ⟨S4x512x20, .f32⟩
  | 22 => ⟨S4x512x20, .f32⟩
  | 23 => ⟨S_, .f32⟩
  | 24 => ⟨S_, .f32⟩
  | 25 => ⟨S4x512x256, .f32⟩
  | 26 => ⟨S_, .f32⟩
  | 27 => ⟨S4x560x256, .f32⟩
  | 28 => ⟨S4x512x256, .f32⟩
  | 29 => ⟨S256x256x1, .f32⟩
  | 30 => ⟨S256x256, .f32⟩
  | 31 => ⟨S4x512x256, .f32⟩
  | 32 => ⟨S4x512x256, .f32⟩
  | 33 => ⟨S256x256x1, .f32⟩
  | 34 => ⟨S256x256, .f32⟩
  | 35 => ⟨S4x512x256, .f32⟩
  | 36 => ⟨S4x512x256, .f32⟩
  | 37 => ⟨S256x256x1, .f32⟩
  | 38 => ⟨S256x256, .f32⟩
  | 39 => ⟨S4x512x256, .f32⟩
  | 40 => ⟨S4x512x256, .f32⟩
  | 41 => ⟨S4x512x256, .f32⟩
  | 42 => ⟨S1x1x256, .f32⟩
  | 43 => ⟨S4x512x256, .f32⟩
  | 44 => ⟨S4x512x256, .f32⟩
  | 45 => ⟨S_, .f32⟩
  | 46 => ⟨S4x560x256, .f32⟩
  | 47 => ⟨S4x512x256, .f32⟩
  | 48 => ⟨S256x256x1, .f32⟩
  | 49 => ⟨S256x256, .f32⟩
  | 50 => ⟨S4x512x256, .f32⟩
  | 51 => ⟨S4x512x256, .f32⟩
  | 52 => ⟨S256x256x1, .f32⟩
  | 53 => ⟨S256x256, .f32⟩
  | 54 => ⟨S4x512x256, .f32⟩
  | 55 => ⟨S4x512x256, .f32⟩
  | 56 => ⟨S256x256x1, .f32⟩
  | 57 => ⟨S256x256, .f32⟩
  | 58 => ⟨S4x512x256, .f32⟩
  | 59 => ⟨S4x512x256, .f32⟩
  | 60 => ⟨S4x512x256, .f32⟩
  | 61 => ⟨S1x1x256, .f32⟩
  | 62 => ⟨S4x512x256, .f32⟩
  | 63 => ⟨S4x512x256, .f32⟩
  | 64 => ⟨S512, .i32⟩
  | 65 => ⟨S_, .i32⟩
  | 66 => ⟨S512, .i32⟩
  | 67 => ⟨S512, .i32⟩
  | 68 => ⟨S_, .i32⟩
  | 69 => ⟨S512, .i32⟩
  | 70 => ⟨S512, .i32⟩
  | 71 => ⟨S512x1, .i32⟩
  | 72 => ⟨S48, .i32⟩
  | 73 => ⟨S1x48, .i32⟩
  | 74 => ⟨S512x48, .i32⟩
  | 75 => ⟨S512x48, .i32⟩
  | 76 => ⟨S512x48, .i32⟩
  | 77 => ⟨S_, .f32⟩
  | 78 => ⟨S4x560x256, .f32⟩
  | 79 => ⟨S512x48x1, .i32⟩
  | 80 => ⟨S4x512x48x256, .f32⟩
  | 81 => ⟨S4x512x12288, .f32⟩
  | 82 => ⟨S4x512x20, .f32⟩
  | 83 => ⟨S1x1x20, .f32⟩
  | 84 => ⟨S4x512x20, .f32⟩
  | 85 => ⟨S4x512x20, .f32⟩
  | 86 => ⟨S_, .f32⟩
  | 87 => ⟨S4x512x20, .f32⟩
  | 88 => ⟨S4x512x20, .f32⟩
  | 89 => ⟨S1x4x512x20, .f32⟩
  | 90 => ⟨S1x4x512x20, .f32⟩
  | 91 => ⟨S1x4x512x20, .f32⟩
  | 92 => ⟨S3x4x512x20, .f32⟩
  | 93 => ⟨S_, .f32⟩
  | 94 => ⟨S3x4x512, .f32⟩
  | 95 => ⟨S3x4x512, .f32⟩
  | 96 => ⟨S3x4x512, .i32⟩
  | 97 => ⟨S3x4x512, .f32⟩
  | 98 => ⟨S3x4x512, .i32⟩
  | 99 => ⟨S512, .i32⟩
  | 100 => ⟨S_, .i32⟩
  | 101 => ⟨S512, .i32⟩
  | 102 => ⟨S512, .i32⟩
  | 103 => ⟨S_, .i32⟩
  | 104 => ⟨S512, .i32⟩
  | 105 => ⟨S512, .i32⟩
  | 106 => ⟨S512x1, .i32⟩
  | 107 => ⟨S512x1, .i32⟩
  | 108 => ⟨S512x2, .i32⟩
  | 109 => ⟨S_, .i32⟩
  | 110 => ⟨S512, .i32⟩
  | 111 => ⟨S512, .i32⟩
  | 112 => ⟨S_, .i32⟩
  | 113 => ⟨S512, .i32⟩
  | 114 => ⟨S512, .i32⟩
  | 115 => ⟨S512x1, .i32⟩
  | 116 => ⟨S512x1, .i32⟩
  | 117 => ⟨S512x2, .i32⟩
  | 118 => ⟨S_, .i32⟩
  | 119 => ⟨S512, .i32⟩
  | 120 => ⟨S512, .i32⟩
  | 121 => ⟨S_, .i32⟩
  | 122 => ⟨S512, .i32⟩
  | 123 => ⟨S512, .i32⟩
  | 124 => ⟨S512x1, .i32⟩
  | 125 => ⟨S512x1, .i32⟩
  | 126 => ⟨S512x2, .i32⟩
  | 127 => ⟨S1x512x2, .i32⟩
  | _ => ⟨S4x512x256, .f32⟩

abbrev hbmTy0_2 (i : Nat) : BufTy := match i % 128 with
  | 0 => ⟨S1x512x2, .i32⟩
  | 1 => ⟨S1x512x2, .i32⟩
  | 2 => ⟨S3x512x2, .i32⟩
  | 3 => ⟨S3x1x512x2, .i32⟩
  | 4 => ⟨S3x4x512x2, .i32⟩
  | 5 => ⟨S512, .i32⟩
  | 6 => ⟨S_, .i32⟩
  | 7 => ⟨S512, .i32⟩
  | 8 => ⟨S512, .i32⟩
  | 9 => ⟨S_, .i32⟩
  | 10 => ⟨S512, .i32⟩
  | 11 => ⟨S512, .i32⟩
  | 12 => ⟨S512x1, .i32⟩
  | 13 => ⟨S512x1, .i32⟩
  | 14 => ⟨S512x2, .i32⟩
  | 15 => ⟨S_, .i32⟩
  | 16 => ⟨S512, .i32⟩
  | 17 => ⟨S512, .i32⟩
  | 18 => ⟨S_, .i32⟩
  | 19 => ⟨S512, .i32⟩
  | 20 => ⟨S512, .i32⟩
  | 21 => ⟨S512x1, .i32⟩
  | 22 => ⟨S512x1, .i32⟩
  | 23 => ⟨S512x2, .i32⟩
  | 24 => ⟨S_, .i32⟩
  | 25 => ⟨S512, .i32⟩
  | 26 => ⟨S512, .i32⟩
  | 27 => ⟨S_, .i32⟩
  | 28 => ⟨S512, .i32⟩
  | 29 => ⟨S512, .i32⟩
  | 30 => ⟨S512x1, .i32⟩
  | 31 => ⟨S512x1, .i32⟩
  | 32 => ⟨S512x2, .i32⟩
  | 33 => ⟨S1x512x2, .i32⟩
  | 34 => ⟨S1x512x2, .i32⟩
  | 35 => ⟨S1x512x2, .i32⟩
  | 36 => ⟨S3x512x2, .i32⟩
  | 37 => ⟨S3x1x512x2, .i32⟩
  | 38 => ⟨S3x4x512x2, .i32⟩
  | 39 => ⟨S3x4x512x1, .i32⟩
  | 40 => ⟨S_, .i32⟩
  | 41 => ⟨S3x4x512x1, .i32⟩
  | 42 => ⟨S3x4x512x1, .i1⟩
  | 43 => ⟨S_, .i32⟩
  | 44 => ⟨S3x4x512x1, .i32⟩
  | 45 => ⟨S3x4x512x1, .i32⟩
  | 46 => ⟨S3x4x512x1, .i32⟩
  | 47 => ⟨S3x4x512x2, .i32⟩
  | 48 => ⟨S3x4x128x2, .i32⟩
  | 49 => ⟨S3x4x128x2, .i32⟩
  | 50 => ⟨S3x4x256x2, .i32⟩
  | 51 => ⟨S3x4x512x1, .i32⟩
  | 52 => ⟨S_, .i32⟩
  | 53 => ⟨S3x4x512x1, .i32⟩
  | 54 => ⟨S3x4x512x1, .i1⟩
  | 55 => ⟨S_, .i32⟩
  | 56 => ⟨S3x4x512x1, .i32⟩
  | 57 => ⟨S3x4x512x1, .i32⟩
  | 58 => ⟨S3x4x512x1, .i32⟩
  | 59 => ⟨S3x4x512x2, .i32⟩
  | 60 => ⟨S3x4x128x2, .i32⟩
  | 61 => ⟨S3x4x128x2, .i32⟩
  | 62 => ⟨S3x4x256x2, .i32⟩
  | 63 => ⟨S3x4x512x1, .i32⟩
  | 64 => ⟨S_, .i32⟩
  | 65 => ⟨S3x4x512x1, .i32⟩
  | 66 => ⟨S3x4x512x1, .i1⟩
  | 67 => ⟨S_, .i32⟩
  | 68 => ⟨S3x4x512x1, .i32⟩
  | 69 => ⟨S3x4x512x1, .i32⟩
  | 70 => ⟨S3x4x512x1, .i32⟩
  | 71 => ⟨S3x4x512x20, .f32⟩
  | 72 => ⟨S3x4x128x20, .f32⟩
  | 73 => ⟨S3x4x128x20, .f32⟩
  | 74 => ⟨S3x4x256x20, .f32⟩
  | _ => ⟨S4x512x256, .f32⟩

abbrev hbmTy (i : Nat) : BufTy := match i / 128 with
  | 0 => hbmTy0_0 i
  | 1 => hbmTy0_1 i
  | 2 => hbmTy0_2 i
  | _ => ⟨S4x512x256, .f32⟩

abbrev bufTy : (tb : Table) → Fin (tcTables nBuf tb) → BufTy
  | .hbm, ⟨i, _⟩ => hbmTy i
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_v40 : Ref sig .tc := ⟨.hbm, 63, rfl⟩
abbrev main_c_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_3 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_4 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_7 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_8 : Ref sig .tc := ⟨.hbm, 127, rfl⟩
abbrev main_v98 : Ref sig .tc := ⟨.hbm, 128, rfl⟩
abbrev main_v99 : Ref sig .tc := ⟨.hbm, 129, rfl⟩
abbrev main_c_9 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_10 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_11 : Ref sig .tc := ⟨.hbm, 148, rfl⟩
abbrev main_v116 : Ref sig .tc := ⟨.hbm, 149, rfl⟩
abbrev main_v117 : Ref sig .tc := ⟨.hbm, 150, rfl⟩
abbrev main_cst_12 : Ref sig .tc := ⟨.hbm, 151, rfl⟩
abbrev main_v118 : Ref sig .tc := ⟨.hbm, 152, rfl⟩
abbrev main_v119 : Ref sig .tc := ⟨.hbm, 153, rfl⟩
abbrev main_cst_13 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_14 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_c_15 : Ref sig .tc := ⟨.hbm, 193, rfl⟩
abbrev main_v157 : Ref sig .tc := ⟨.hbm, 194, rfl⟩
abbrev main_v158 : Ref sig .tc := ⟨.hbm, 195, rfl⟩
abbrev main_c_16 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_cst_17 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_18 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_19 : Ref sig .tc := ⟨.hbm, 221, rfl⟩
abbrev main_v181 : Ref sig .tc := ⟨.hbm, 222, rfl⟩
abbrev main_v182 : Ref sig .tc := ⟨.hbm, 223, rfl⟩
abbrev main_call0_v0 : Ref sig .tc := ⟨.hbm, 224, rfl⟩
abbrev main_call0_v1_0 : Ref sig .tc := ⟨.hbm, 225, rfl⟩
abbrev main_v183 : Ref sig .tc := ⟨.hbm, 226, rfl⟩
abbrev main_v184 : Ref sig .tc := ⟨.hbm, 227, rfl⟩
abbrev main_c_20 : Ref sig .tc := ⟨.hbm, 228, rfl⟩
abbrev main_v185 : Ref sig .tc := ⟨.hbm, 229, rfl⟩
abbrev main_v186 : Ref sig .tc := ⟨.hbm, 230, rfl⟩
abbrev main_c_21 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_c_22 : Ref sig .tc := ⟨.hbm, 237, rfl⟩
abbrev main_v192 : Ref sig .tc := ⟨.hbm, 238, rfl⟩
abbrev main_v193 : Ref sig .tc := ⟨.hbm, 239, rfl⟩
abbrev main_c_23 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_c_24 : Ref sig .tc := ⟨.hbm, 246, rfl⟩
abbrev main_v199 : Ref sig .tc := ⟨.hbm, 247, rfl⟩
abbrev main_v200 : Ref sig .tc := ⟨.hbm, 248, rfl⟩
abbrev main_c_25 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_c_26 : Ref sig .tc := ⟨.hbm, 262, rfl⟩
abbrev main_v213 : Ref sig .tc := ⟨.hbm, 263, rfl⟩
abbrev main_v214 : Ref sig .tc := ⟨.hbm, 264, rfl⟩
abbrev main_c_27 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_c_28 : Ref sig .tc := ⟨.hbm, 271, rfl⟩
abbrev main_v220 : Ref sig .tc := ⟨.hbm, 272, rfl⟩
abbrev main_v221 : Ref sig .tc := ⟨.hbm, 273, rfl⟩
abbrev main_c_29 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_c_30 : Ref sig .tc := ⟨.hbm, 280, rfl⟩
abbrev main_v227 : Ref sig .tc := ⟨.hbm, 281, rfl⟩
abbrev main_v228 : Ref sig .tc := ⟨.hbm, 282, rfl⟩
abbrev main_c_31 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_call1_c : Ref sig .tc := ⟨.hbm, 296, rfl⟩
abbrev main_call1_v0 : Ref sig .tc := ⟨.hbm, 297, rfl⟩
abbrev main_call1_v1 : Ref sig .tc := ⟨.hbm, 298, rfl⟩
abbrev main_call1_c_0 : Ref sig .tc := ⟨.hbm, 299, rfl⟩
abbrev main_call1_v2 : Ref sig .tc := ⟨.hbm, 300, rfl⟩
abbrev main_call1_v3 : Ref sig .tc := ⟨.hbm, 301, rfl⟩
abbrev main_call1_v4 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_call2_c : Ref sig .tc := ⟨.hbm, 308, rfl⟩
abbrev main_call2_v0 : Ref sig .tc := ⟨.hbm, 309, rfl⟩
abbrev main_call2_v1 : Ref sig .tc := ⟨.hbm, 310, rfl⟩
abbrev main_call2_c_0 : Ref sig .tc := ⟨.hbm, 311, rfl⟩
abbrev main_call2_v2 : Ref sig .tc := ⟨.hbm, 312, rfl⟩
abbrev main_call2_v3 : Ref sig .tc := ⟨.hbm, 313, rfl⟩
abbrev main_call2_v4 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_call3_c : Ref sig .tc := ⟨.hbm, 320, rfl⟩
abbrev main_call3_v0 : Ref sig .tc := ⟨.hbm, 321, rfl⟩
abbrev main_call3_v1 : Ref sig .tc := ⟨.hbm, 322, rfl⟩
abbrev main_call3_c_0 : Ref sig .tc := ⟨.hbm, 323, rfl⟩
abbrev main_call3_v2 : Ref sig .tc := ⟨.hbm, 324, rfl⟩
abbrev main_call3_v3 : Ref sig .tc := ⟨.hbm, 325, rfl⟩
abbrev main_call3_v4 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩

abbrev nD : Nat := 1
abbrev τ : Topo := Topo.v7x

variable {F : FTy → Type} [FloatOps F]
-- ==== Proof.Spec.lean ====
module

public import Idealize.ShloMosaic.Lib.ValueIdx

@[expose] public section

/-! # What one branch of the network computes

One batch row, index by index, over the extended reals: max pooling along time, two dilated three-tap
convolutions and a windowed linear classifier with a rectifier. -/

namespace Cert.Spec

open scoped BigOperators

/-- The rows of `h` at positions `24 … 535` of a line of `560`, and `e` at every other position. -/
noncomputable def padAt {n : ℕ} (e : EReal) (h : Fin 512 → Fin n → EReal) (k : ℕ) (c : Fin n) : EReal :=
  if H : 24 ≤ k ∧ k < 536 then h ⟨k - 24, by omega⟩ c else e

/-- Max pooling over the `2p+1` rows around each row, the rows outside counting as `-∞`. -/
noncomputable def pool (p : ℕ) (x : Fin 512 → Fin 256 → EReal) (t : Fin 512) (c : Fin 256) : EReal :=
  (Finset.range (2 * p + 1)).sup fun j => padAt ⊥ x (24 - p + j + t.val) c

/-- One tap of a convolution: row `k` of the padded line times one weight matrix. -/
noncomputable def tap {m : ℕ} (h : Fin 512 → Fin 256 → EReal) (k : ℕ) (w : Fin 256 → Fin m → EReal) (o : Fin m) : EReal :=
  ∑ c : Fin 256, padAt 0 h k c * w c o

/-- A three-tap convolution with dilation `d`, zero rows outside, plus a bias. -/
noncomputable def dilated (d : ℕ) (w : Fin 3 → Fin 256 → Fin 256 → EReal) (b : Fin 256 → EReal)
    (h : Fin 512 → Fin 256 → EReal) (t : Fin 512) (o : Fin 256) : EReal :=
  tap h (24 - d + t.val) (w 0) o + tap h (24 + t.val) (w 1) o + tap h (24 + d + t.val) (w 2) o + b o

/-- The classifier on the window of `fl` rows that starts `fl/2 - 1` rows before each row, rectified. -/
noncomputable def classify (fl : ℕ) (w : Fin fl → Fin 256 → Fin 20 → EReal) (b : Fin 20 → EReal)
    (h : Fin 512 → Fin 256 → EReal) (t : Fin 512) (n : Fin 20) : EReal :=
  max ((∑ j : Fin fl, tap h (25 - fl / 2 + j.val + t.val) (w j) n) + b n) 0

/-- One branch: pooling of half-width `p`, dilations `2p+1` and `4p+1`, a classifier on `fl` rows. -/
noncomputable def branch (p fl : ℕ) (x : Fin 512 → Fin 256 → EReal)
    (w1 : Fin 3 → Fin 256 → Fin 256 → EReal) (b1 : Fin 256 → EReal)
    (w2 : Fin 3 → Fin 256 → Fin 256 → EReal) (b2 : Fin 256 → EReal)
    (wc : Fin fl → Fin 256 → Fin 20 → EReal) (bc : Fin 20 → EReal) : Fin 512 → Fin 20 → EReal :=
  classify fl wc bc (dilated (4 * p + 1) w2 b2 (dilated (2 * p + 1) w1 b1 (pool p x)))

end Cert.Spec

end
-- ==== Proof.Padded.lean ====
module

public import Idealize.ShloMosaic.Lib.MatmulPlain
public import Idealize.ShloMosaic.Lib.Pipeline.Value
public import Idealize.ShloMosaic.Lib.Pipeline.ValueKit.Basic
public import Idealize.ShloMosaic.Lib.Pipeline.ValueKit.Acc
public import Idealize.ShloMosaic.Lib.ValueLayout
public import proofs.«01_k».proof.Proof.Spec

@[expose] public section

/-! # A line buffer with constant ends, and dot products of its shifted windows -/

namespace Cert.Padded

open Idealize Idealize.ShloMosaic Cert.Spec
open Idealize.ShloMosaic.ValueIdx
open scoped BigOperators

abbrev Line : Shape := ⟨2, ![560, 256]⟩
abbrev Mid : Shape := ⟨2, ![512, 256]⟩
abbrev End : Shape := ⟨2, ![24, 256]⟩

/-- What a line buffer holds once its two ends were filled with `e` and its middle rows with `w`: the padded rows. -/
theorem canon_line (h1 : ∀ a, (![24, 0] : Fin 2 → ℕ) a + Mid.size a ≤ Line.size a)
    (h2 : ∀ a, (![536, 0] : Fin 2 → ℕ) a + End.size a ≤ Line.size a)
    (h3 : ∀ a, (![0, 0] : Fin 2 → ℕ) a + End.size a ≤ Line.size a)
    (w : Mid.Idx → Elt Ideal .f32) (u v : End.Idx → Elt Ideal .f32) (e : EReal) (hu : ∀ i, u i = e) (hv : ∀ i, v i = e)
    (h : Fin 512 → Fin 256 → EReal) (hw : ∀ t c, w (ix2 t c) = h t c)
    (L : List (View.Piece (Elt Ideal) Line .f32)) (y : Line.Idx) :
    View.canon ((⟨Rect.unit (s := Line) ![24, 0] Mid.size h1, w⟩ : View.Piece (Elt Ideal) Line .f32) ::
      ⟨Rect.unit (s := Line) ![536, 0] End.size h2, u⟩ :: ⟨Rect.unit (s := Line) ![0, 0] End.size h3, v⟩ :: L) y = padAt e h (y 0).val (y 1) := by
  have hy0 : (y 0).val < 560 := (y 0).isLt
  have hy1 : (y 1).val < 256 := (y 1).isLt
  unfold padAt
  by_cases H : 24 ≤ (y 0).val ∧ (y 0).val < 536
  · rw [dif_pos H]
    have hm : y = (Rect.unit (s := Line) ![24, 0] Mid.size h1).emb (ix2 ⟨(y 0).val - 24, by omega⟩ (y 1)) := by
      funext a; apply Fin.ext
      match a with
      | ⟨0, _⟩ => show (y 0).val = 24 + 1 * ((y 0).val - 24); omega
      | ⟨1, _⟩ => show (y 1).val = 0 + 1 * (y 1).val; omega
    conv_lhs => rw [hm]
    rw [View.canon_cons_emb]
    exact hw _ _
  · rw [dif_neg H]
    rw [View.canon_cons_of_not_mem _ _ (by
      rw [Rect.mem_set_unit]
      intro hh
      have := hh 0
      apply H
      simpa using this)]
    by_cases H2 : 536 ≤ (y 0).val
    · have hm : y = (Rect.unit (s := Line) ![536, 0] End.size h2).emb (ix2 ⟨(y 0).val - 536, by omega⟩ (y 1)) := by
        funext a; apply Fin.ext
        match a with
        | ⟨0, _⟩ => show (y 0).val = 536 + 1 * ((y 0).val - 536); omega
        | ⟨1, _⟩ => show (y 1).val = 0 + 1 * (y 1).val; omega
      conv_lhs => rw [hm]
      rw [View.canon_cons_emb]
      exact hu _
    · rw [View.canon_cons_of_not_mem _ _ (by
        rw [Rect.mem_set_unit]
        intro hh
        have := (hh 0).1
        apply H2
        simpa using this)]
      have hm : y = (Rect.unit (s := Line) ![0, 0] End.size h3).emb (ix2 ⟨(y 0).val, by omega⟩ (y 1)) := by
        funext a; apply Fin.ext
        match a with
        | ⟨0, _⟩ => show (y 0).val = 0 + 1 * ((y 0).val); omega
        | ⟨1, _⟩ => show (y 1).val = 0 + 1 * (y 1).val; omega
      conv_lhs => rw [hm]
      rw [View.canon_cons_emb]
      exact hv _

variable {sig : RefSig} {κ : Kind} {sp : Space}

/-- A window of `512` rows of a line buffer, read at a row and a column. -/
theorem read_line (v : View sig κ sp Line .f32) (L : List (View.Piece (Elt Ideal) Line .f32)) (P : ℕ → Fin 256 → EReal)
    (hL : ∀ y, View.canon L y = P (y 0).val (y 1)) (off : ℕ)
    (h : ∀ a, (![off, 0] : Fin 2 → ℕ) a + Mid.size a ≤ Line.size a) (t : Fin 512) (c : Fin 256) :
    v.readCov L (Rect.unit (s := Line) ![off, 0] Mid.size h).toLoadRect (ix2 t c) = P (off + t.val) c := by
  rw [View.readCov_eq_canon']
  show View.canon L _ = _
  rw [hL]
  congr 1
  · show off + 1 * t.val = _
    omega
  · apply Fin.ext
    show 0 + 1 * c.val = _
    omega

/-- One matrix of a stack of matrices, read from the stack. -/
theorem read_stack {m n k : ℕ} (M : Memref sig κ sp ⟨3, ![m, n, k]⟩ .f32) (hM : M.IsWhole)
    (x : (⟨3, ![m, n, k]⟩ : Shape).Idx → Elt Ideal .f32) (j : ℕ) (hj : j < m)
    (h : ∀ a, (![j, 0, 0] : Fin 3 → ℕ) a + (⟨3, ![1, n, k]⟩ : Shape).size a ≤ (⟨3, ![m, n, k]⟩ : Shape).size a)
    (a : Fin n) (b : Fin k) :
    View.readAt (Elt Ideal) M.view (Rect.unit (s := ⟨3, ![m, n, k]⟩) ![j, 0, 0] (⟨3, ![1, n, k]⟩ : Shape).size h).toLoadRect (hM.unread x) (ix3 (0 : Fin 1) a b)
      = x (ix3 (⟨j, hj⟩ : Fin m) a b) := by
  rw [View.readAt_eq_ld, hM.read_unread]
  show x _ = _
  congr 1
  funext i; apply Fin.ext
  match i with
  | ⟨0, _⟩ => show j + 1 * 0 = j; omega
  | ⟨1, _⟩ => show 0 + 1 * a.val = a.val; omega
  | ⟨2, _⟩ => show 0 + 1 * b.val = b.val; omega

/-- A row of a one-row matrix read whole. -/
theorem read_row {n : ℕ} (M : Memref sig κ sp ⟨2, ![1, n]⟩ .f32) (hM : M.IsWhole)
    (x : (⟨2, ![1, n]⟩ : Shape).Idx → Elt Ideal .f32)
    (h : ∀ a, (![0, 0] : Fin 2 → ℕ) a + (⟨2, ![1, n]⟩ : Shape).size a ≤ (⟨2, ![1, n]⟩ : Shape).size a) (b : Fin n) :
    View.readAt (Elt Ideal) M.view (Rect.unit (s := ⟨2, ![1, n]⟩) ![0, 0] (⟨2, ![1, n]⟩ : Shape).size h).toLoadRect (hM.unread x) (ix2 (0 : Fin 1) b)
      = x (ix2 (0 : Fin 1) b) := by
  rw [View.readAt_eq_ld, hM.read_unread]
  show x _ = _
  congr 1
  funext i; apply Fin.ext
  match i with
  | ⟨0, _⟩ => show 0 + 1 * 0 = 0; omega
  | ⟨1, _⟩ => show 0 + 1 * b.val = b.val; omega

/-- `-∞` as a constant. -/
theorem negInf : Ideal.ofBits .f32 0xFF800000#32 = (⊥ : EReal) := by simp [Ideal.ofBits, Ideal.ieee]

/-- A window times a matrix of the stack, on a zero accumulator, at an entry: one tap. -/
theorem dot_tap {m : ℕ} (d : DotDims Mid ⟨2, ![256, m]⟩ ⟨2, ![512, m]⟩) (hd : d = DotDims.plain 512 256 m)
    (prec : Option ContractPrecision)
    (v : Mid.Idx → Elt Ideal .f32) (w : (⟨3, ![1, 256, m]⟩ : Shape).Idx → Elt Ideal .f32)
    (hc : (⟨3, ![1, 256, m]⟩ : Shape).ShapeCasts ⟨2, ![256, m]⟩)
    (hs : (⟨2, ![512, m]⟩ : Shape).ShapeCasts ⟨2, ![512, m]⟩)
    (h : Fin 512 → Fin 256 → EReal) (W : Fin 256 → Fin m → EReal) (off : ℕ)
    (hv : ∀ t c, v (ix2 t c) = padAt 0 h (off + t.val) c) (hw : ∀ c o, w (ix3 (0 : Fin 1) c o) = W c o)
    (t : Fin 512) (o : Fin m) :
    shapeCast ⟨2, ![512, m]⟩ (FloatOps.matmul (F := Ideal) (φ₁ := .f32) (φ₂ := .f32) d prec v (shapeCast ⟨2, ![256, m]⟩ w hc) (constant (⟨2, ![512, m]⟩ : Shape) .f32 0x00000000#32)) hs (ix2 t o)
      = tap h (off + t.val) W o := by
  subst hd
  rw [shapeCast_self, Ideal.matmul_plain_apply, constant_apply, Ideal.ofBits_zero_f32, zero_add]
  unfold tap
  refine Finset.sum_congr rfl fun c _ => ?_
  rw [hv, shapeCast_1ab_ab_apply, hw]

/-- A stack of matrices indexed by any number, zero beyond its height. -/
noncomputable def stackAt {m n k : ℕ} (x : (⟨3, ![m, n, k]⟩ : Shape).Idx → Elt Ideal .f32) (j : ℕ) (a : Fin n) (b : Fin k) : EReal :=
  if hj : j < m then x (ix3 (⟨j, hj⟩ : Fin m) a b) else 0

/-- One matrix of a stack of matrices, read from the stack by its number. -/
theorem read_stackAt {m n k : ℕ} (M : Memref sig κ sp ⟨3, ![m, n, k]⟩ .f32) (hM : M.IsWhole)
    (x : (⟨3, ![m, n, k]⟩ : Shape).Idx → Elt Ideal .f32) (j : ℕ)
    (h : ∀ a, (![j, 0, 0] : Fin 3 → ℕ) a + (⟨3, ![1, n, k]⟩ : Shape).size a ≤ (⟨3, ![m, n, k]⟩ : Shape).size a)
    (a : Fin n) (b : Fin k) :
    View.readAt (Elt Ideal) M.view (Rect.unit (s := ⟨3, ![m, n, k]⟩) ![j, 0, 0] (⟨3, ![1, n, k]⟩ : Shape).size h).toLoadRect (hM.unread x) (ix3 (0 : Fin 1) a b)
      = stackAt x j a b := by
  have hj : j < m := by have h0 : j + 1 ≤ m := h 0; omega
  rw [read_stack M hM x j hj h a b, stackAt, dif_pos hj]

/-- Adding one more tap to the sum of the first `k` taps of a windowed classifier. -/
theorem acc_step {m : ℕ} (d : DotDims Mid ⟨2, ![256, m]⟩ ⟨2, ![512, m]⟩) (hd : d = DotDims.plain 512 256 m)
    (prec : Option ContractPrecision)
    (a : FVec Ideal ⟨2, ![512, m]⟩ .f32)
    (v : Mid.Idx → Elt Ideal .f32) (w : (⟨3, ![1, 256, m]⟩ : Shape).Idx → Elt Ideal .f32)
    (hc : (⟨3, ![1, 256, m]⟩ : Shape).ShapeCasts ⟨2, ![256, m]⟩)
    (hs : (⟨2, ![512, m]⟩ : Shape).ShapeCasts ⟨2, ![512, m]⟩)
    (h : Fin 512 → Fin 256 → EReal) (W : ℕ → Fin 256 → Fin m → EReal) (base k : ℕ)
    (ha : ∀ t o, a (ix2 t o) = ∑ j ∈ Finset.range k, tap h (base + j + t.val) (W j) o)
    (hv : ∀ t c, v (ix2 t c) = padAt 0 h (base + k + t.val) c) (hw : ∀ c o, w (ix3 (0 : Fin 1) c o) = W k c o)
    (t : Fin 512) (o : Fin m) :
    shapeCast ⟨2, ![512, m]⟩ (addf a (FloatOps.matmul (F := Ideal) (φ₁ := .f32) (φ₂ := .f32) d prec v (shapeCast ⟨2, ![256, m]⟩ w hc) (constant (⟨2, ![512, m]⟩ : Shape) .f32 0x00000000#32))) hs (ix2 t o)
      = ∑ j ∈ Finset.range (k + 1), tap h (base + j + t.val) (W j) o := by
  rw [shapeCast_self, addf_apply, ha, Finset.sum_range_succ]
  congr 1
  rw [← dot_tap d hd prec v w hc hs h (W k) (base + k) hv hw t o, shapeCast_self]

/-- The rows of a one-sheet stack. -/
def rowsOf {m n : ℕ} (x : (⟨3, ![1, m, n]⟩ : Shape).Idx → Elt Ideal .f32) (t : Fin m) (c : Fin n) : EReal := x (ix3 (0 : Fin 1) t c)

/-- A stack of matrices by its three coordinates. -/
def stackOf {l m n : ℕ} (x : (⟨3, ![l, m, n]⟩ : Shape).Idx → Elt Ideal .f32) (j : Fin l) (c : Fin m) (o : Fin n) : EReal := x (ix3 j c o)

/-- The one row of a one-row matrix. -/
def vecOf {n : ℕ} (x : (⟨2, ![1, n]⟩ : Shape).Idx → Elt Ideal .f32) (o : Fin n) : EReal := x (ix2 (0 : Fin 1) o)

/-- The first tap alone is the sum of the first tap. -/
theorem acc_first {m : ℕ} (d : DotDims Mid ⟨2, ![256, m]⟩ ⟨2, ![512, m]⟩) (hd : d = DotDims.plain 512 256 m)
    (prec : Option ContractPrecision)
    (v : Mid.Idx → Elt Ideal .f32) (w : (⟨3, ![1, 256, m]⟩ : Shape).Idx → Elt Ideal .f32)
    (hc : (⟨3, ![1, 256, m]⟩ : Shape).ShapeCasts ⟨2, ![256, m]⟩)
    (hs : (⟨2, ![512, m]⟩ : Shape).ShapeCasts ⟨2, ![512, m]⟩)
    (h : Fin 512 → Fin 256 → EReal) (W : ℕ → Fin 256 → Fin m → EReal) (base : ℕ)
    (hv : ∀ t c, v (ix2 t c) = padAt 0 h (base + t.val) c) (hw : ∀ c o, w (ix3 (0 : Fin 1) c o) = W 0 c o)
    (t : Fin 512) (o : Fin m) :
    shapeCast ⟨2, ![512, m]⟩ (FloatOps.matmul (F := Ideal) (φ₁ := .f32) (φ₂ := .f32) d prec v (shapeCast ⟨2, ![256, m]⟩ w hc) (constant (⟨2, ![512, m]⟩ : Shape) .f32 0x00000000#32)) hs (ix2 t o)
      = ∑ j ∈ Finset.range 1, tap h (base + j + t.val) (W j) o := by
  rw [Finset.sum_range_one]
  exact dot_tap d hd prec v w hc hs h (W 0) base hv hw t o

/-- A block of rows recast to its own shape reads the same. -/
theorem mid_cast (x : FVec Ideal Mid .f32) (hs : Mid.ShapeCasts Mid) (t : Fin 512) (q : Fin 256) :
    shapeCast Mid x hs (ix2 t q) = x (ix2 t q) := by rw [shapeCast_self]

/-- A one-sheet block recast to rows reads its sheet. -/
theorem rows_cast (x : (⟨3, ![1, 512, 256]⟩ : Shape).Idx → Elt Ideal .f32) (hc : (⟨3, ![1, 512, 256]⟩ : Shape).ShapeCasts Mid)
    (hs : Mid.ShapeCasts Mid) (t : Fin 512) (q : Fin 256) :
    shapeCast Mid (shapeCast Mid x hc) hs (ix2 t q) = x (ix3 (0 : Fin 1) t q) := by
  rw [shapeCast_self]
  exact shapeCast_1ab_ab_apply _ _ t q

/-- Three taps added in either of two orders, chosen entry by entry, plus a bias. -/
theorem conv_entry (cnd : IVec Mid 1) (u0 u1 u2 : FVec Ideal Mid .f32) (b : (⟨2, ![1, 256]⟩ : Shape).Idx → Elt Ideal .f32)
    (hc : (⟨2, ![1, 256]⟩ : Shape).ShapeCasts ⟨2, ![1, 256]⟩) (hb : (⟨2, ![1, 256]⟩ : Shape).Broadcasts Mid)
    (hs : Mid.ShapeCasts Mid) (t : Fin 512) (o : Fin 256) :
    shapeCast Mid (addf (F := Ideal) (φ := .f32) (select cnd (addf (addf u1 u2) u0) (addf (addf u0 u1) u2))
      (broadcastTo Mid (shapeCast ⟨2, ![1, 256]⟩ b hc) hb)) hs (ix2 t o)
      = u0 (ix2 t o) + u1 (ix2 t o) + u2 (ix2 t o) + b (ix2 (0 : Fin 1) o) := by
  rw [shapeCast_self, shapeCast_self, addf_apply, broadcastTo_1b_ab_apply]
  congr 1
  have e : addf (addf u1 u2) u0 (ix2 t o) = addf (addf u0 u1) u2 (ix2 t o) := by
    show u1 (ix2 t o) + u2 (ix2 t o) + u0 (ix2 t o) = u0 (ix2 t o) + u1 (ix2 t o) + u2 (ix2 t o)
    rw [add_comm, add_assoc]
  show (if _ then _ else _) = _
  rw [e]
  split <;> rfl

/-- The sum of the taps plus a bias, rectified: the classifier. -/
theorem classify_entry {fl : ℕ} (a : FVec Ideal ⟨2, ![512, 20]⟩ .f32) (b : (⟨2, ![1, 20]⟩ : Shape).Idx → Elt Ideal .f32)
    (x : (⟨3, ![fl, 256, 20]⟩ : Shape).Idx → Elt Ideal .f32)
    (hc : (⟨2, ![1, 20]⟩ : Shape).ShapeCasts ⟨2, ![1, 20]⟩) (hb : (⟨2, ![1, 20]⟩ : Shape).Broadcasts ⟨2, ![512, 20]⟩)
    (hs : (⟨2, ![512, 20]⟩ : Shape).ShapeCasts ⟨3, ![1, 512, 20]⟩) (h : Fin 512 → Fin 256 → EReal)
    (ha : ∀ t o, a (ix2 t o) = ∑ j ∈ Finset.range fl, tap h (25 - fl / 2 + j + t.val) (stackAt x j) o)
    (t : Fin 512) (n : Fin 20) :
    shapeCast ⟨3, ![1, 512, 20]⟩ (maximumf (F := Ideal) (φ := .f32) (addf a (broadcastTo ⟨2, ![512, 20]⟩ (shapeCast ⟨2, ![1, 20]⟩ b hc) hb))
      (broadcast ⟨2, ![512, 20]⟩ (Scalar.ofBits .f32 0x00000000#32 : Ideal .f32))) hs (ix3 (0 : Fin 1) t n)
      = classify fl (stackOf x) (vecOf b) h t n := by
  rw [shapeCast_ab_1ab_apply, shapeCast_self, maximumf_apply, addf_apply, broadcastTo_1b_ab_apply, ha]
  unfold classify
  show max _ (Ideal.ofBits .f32 0x00000000#32) = _
  rw [Ideal.ofBits_zero_f32, Finset.sum_range]
  congr 2
  refine Finset.sum_congr rfl fun j _ => ?_
  congr 1
  funext c o
  rw [stackAt, dif_pos j.isLt]
  rfl

/-- The largest of the first `n + 1` values: the larger of the largest of the first `n` and the last. -/
theorem sup_succ (f : ℕ → EReal) (n : ℕ) : (Finset.range (n + 1)).sup f = max ((Finset.range n).sup f) (f n) := by
  rw [Finset.range_add_one, Finset.sup_insert, max_comm]

/-- The largest of one value. -/
theorem sup_first (f : ℕ → EReal) {a : EReal} (h0 : a = f 0) : a = (Finset.range 1).sup f := by simp [h0]

/-- Taking one more value into the largest of the first `k`. -/
theorem sup_step (f : ℕ → EReal) (k : ℕ) {a b : EReal} (ha : a = (Finset.range k).sup f) (hb : b = f k) :
    max a b = (Finset.range (k + 1)).sup f := by rw [sup_succ, ha, hb]

/-- A value in a list of three terms and a bias, each replaced by an equal one. -/
theorem sum4 {a b c d a' b' c' d' : EReal} (ha : a = a') (hb : b = b') (hc : c = c') (hd : d = d') :
    a + b + c + d = a' + b' + c' + d' := by rw [ha, hb, hc, hd]

end Cert.Padded

end
-- ==== Proof.Branch0.lean ====
module

public import proofs.«01_k».proof.Proof.Gen.KernelIdeal.Frame
public import proofs.«01_k».proof.Proof.Padded

@[expose] public section

/-! # Branch 0: what one grid point of the branch kernel leaves in its output block

The line buffers, the two convolutions, the classifier's running sum, and the block. -/

namespace Cert.Branch0

open Idealize Idealize.ShloMosaic Idealize.ShloMosaic.ValueIdx
open Cert.KernelIdeal Cert.KernelIdeal.Gen Cert.Spec Cert.Padded
open scoped BigOperators

variable (c : Dev nD)
  (arg1 : Memref sig .tc .vmem S1x512x256 .f32) (harg1 : arg1.IsWhole)
  (arg2 : Memref sig .tc .vmem S3x256x256 .f32) (harg2 : arg2.IsWhole)
  (arg3 : Memref sig .tc .vmem S1x256 .f32) (harg3 : arg3.IsWhole)
  (arg4 : Memref sig .tc .vmem S3x256x256 .f32) (harg4 : arg4.IsWhole)
  (arg5 : Memref sig .tc .vmem S1x256 .f32) (harg5 : arg5.IsWhole)
  (arg6 : Memref sig .tc .vmem S12x256x20 .f32) (harg6 : arg6.IsWhole)
  (arg7 : Memref sig .tc .vmem S1x20 .f32) (harg7 : arg7.IsWhole)
  (arg8 : Memref sig .tc .vmem S1x512x1 .f32) (harg8 : arg8.IsWhole)
  (arg9 : Memref sig .tc .vmem S1x512x1 .f32) (harg9 : arg9.IsWhole)
  (arg10 : Memref sig .tc .vmem S1x512x20 .f32) (harg10 : arg10.IsWhole)
  (arg11 : Memref sig .tc .vmem S560x256 .f32) (harg11 : arg11.IsWhole)
  (arg12 : Memref sig .tc .vmem S560x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x20 .f32) (harg16 : arg16.IsWhole)
  (x0 : Vec Ideal S1x512x256 .f32)
  (x1 : Vec Ideal S3x256x256 .f32)
  (x2 : Vec Ideal S1x256 .f32)
  (x3 : Vec Ideal S3x256x256 .f32)
  (x4 : Vec Ideal S1x256 .f32)
  (x5 : Vec Ideal S12x256x20 .f32)
  (x6 : Vec Ideal S1x20 .f32)
  (x7 : Vec Ideal S1x512x1 .f32)
  (x8 : Vec Ideal S1x512x1 .f32)

/-- The input rows, as they are stored in the first line buffer. -/
theorem line0_mid (t : Fin 512) (q : Fin 256) :
    k0_pay8 (F := Ideal) (View.readAt (Elt Ideal) arg1.view (Rect.unit ![0, 0, 0] S1x512x256.size inb_S1x512x256_S1x512x256_0_0_0).toLoadRect (harg1.unread x0)) (ix2 t q) = rowsOf x0 t q := by
  unfold k0_pay8
  refine (rows_cast _ _ _ t q).trans ?_
  exact read_stack arg1 harg1 x0 0 (by decide) _ t q

/-- The first line buffer before pooling: the input rows between rows of `-∞`. -/
theorem line0 (y : S560x256.Idx) :
    View.canon (kernelRun0_A.sl.HS0_3 (F := Ideal) c arg1 harg1 x0) y = padAt ⊥ (rowsOf x0) (y 0).val (y 1) :=
  canon_line _ _ _ _ _ _ ⊥ (fun _ => negInf) (fun _ => negInf) _ (fun t q => line0_mid arg1 harg1 x0 t q) _ y

/-- The pooled rows, as they are stored in the second line buffer. -/
theorem line1_mid (t : Fin 512) (q : Fin 256) :
    (k0_pay11 (kernelRun0_A.sl.v13 c arg1 harg1 arg11 x0) (kernelRun0_A.sl.v14 c arg1 harg1 arg11 x0) (kernelRun0_A.sl.v16 c arg1 harg1 arg11 x0) : FVec Ideal S512x256 .f32) (ix2 t q) = pool 1 (rowsOf x0) t q := by
  unfold k0_pay11
  refine (mid_cast _ _ t q).trans ?_
  exact (sup_step (fun j => padAt ⊥ (rowsOf x0) (24 - 1 + j + t.val) q) 2 (sup_step (fun j => padAt ⊥ (rowsOf x0) (24 - 1 + j + t.val) q) 1 (sup_first (fun j => padAt ⊥ (rowsOf x0) (24 - 1 + j + t.val) q) (read_line _ _ _ (line0 c arg1 harg1 x0) 23 _ t q)) (read_line _ _ _ (line0 c arg1 harg1 x0) 24 _ t q)) (read_line _ _ _ (line0 c arg1 harg1 x0) 25 _ t q))

/-- The second line buffer before the first convolution: the pooled rows between rows of zeros. -/
theorem line1 (y : S560x256.Idx) :
    View.canon (kernelRun0_A.sl.HS1_3 (F := Ideal) c arg1 harg1 arg11 x0) y = padAt 0 (pool 1 (rowsOf x0)) (y 0).val (y 1) :=
  canon_line _ _ _ _ _ _ 0 (fun _ => Ideal.ofBits_zero_f32) (fun _ => Ideal.ofBits_zero_f32) _ (fun t q => line1_mid c arg1 harg1 arg11 x0 t q) _ y

/-- Convolution 1, tap 0. -/
theorem conv1_tap0 (t : Fin 512) (q : Fin 256) :
    kernelRun0_A.sl.v48 (F := Ideal) c arg1 harg1 arg2 harg2 arg11 arg12 arg13 x0 x1 (ix2 t q) = tap (pool 1 (rowsOf x0)) (24 - 3 + t.val) (stackOf x1 0) q := by
  refine (congrFun (View.readCov_cons_unit_lit' _ _ _ _ _ (by decide) (by decide)) _).trans ?_
  exact dot_tap _ rfl none _ _ _ _ (pool 1 (rowsOf x0)) (stackOf x1 0) _ (fun t q => read_line _ _ _ (line1 c arg1 harg1 arg11 x0) 21 _ t q)
    (fun a b => read_stack _ _ _ 0 (by decide) _ a b) t q

/-- Convolution 1, tap 1. -/
theorem conv1_tap1 (t : Fin 512) (q : Fin 256) :
    kernelRun0_A.sl.v49 (F := Ideal) c arg1 harg1 arg2 harg2 arg11 arg12 arg14 x0 x1 (ix2 t q) = tap (pool 1 (rowsOf x0)) (24 + t.val) (stackOf x1 1) q := by
  refine (congrFun (View.readCov_cons_unit_lit' _ _ _ _ _ (by decide) (by decide)) _).trans ?_
  exact dot_tap _ rfl none _ _ _ _ (pool 1 (rowsOf x0)) (stackOf x1 1) _ (fun t q => read_line _ _ _ (line1 c arg1 harg1 arg11 x0) 24 _ t q)
    (fun a b => read_stack _ _ _ 1 (by decide) _ a b) t q

/-- Convolution 1, tap 2. -/
theorem conv1_tap2 (t : Fin 512) (q : Fin 256) :
    kernelRun0_A.sl.v51 (F := Ideal) c arg1 harg1 arg2 harg2 arg11 arg12 arg15 x0 x1 (ix2 t q) = tap (pool 1 (rowsOf x0)) (24 + 3 + t.val) (stackOf x1 2) q := by
  refine (congrFun (View.readCov_cons_unit_lit' _ _ _ _ _ (by decide) (by decide)) _).trans ?_
  exact dot_tap _ rfl none _ _ _ _ (pool 1 (rowsOf x0)) (stackOf x1 2) _ (fun t q => read_line _ _ _ (line1 c arg1 harg1 arg11 x0) 27 _ t q)
    (fun a b => read_stack _ _ _ 2 (by decide) _ a b) t q

/-- The rows of convolution 1, as they are stored in a line buffer. -/
theorem line2_mid (t : Fin 512) (q : Fin 256) :
    (k0_pay18 (kernelRun0_A.sl.r c arg1 harg1 arg2 harg2 arg11 arg12 arg13 arg14 arg15 x0 x1) (kernelRun0_A.sl.v49 c arg1 harg1 arg2 harg2 arg11 arg12 arg14 x0 x1) (kernelRun0_A.sl.v51 c arg1 harg1 arg2 harg2 arg11 arg12 arg15 x0 x1) (kernelRun0_A.sl.v48 c arg1 harg1 arg2 harg2 arg11 arg12 arg13 x0 x1) (View.readAt (Elt Ideal) arg8.view (Rect.unit ![0, 0, 0] S1x512x1.size inb_S1x512x1_S1x512x1_0_0_0).toLoadRect (harg8.unread x7)) (View.readAt (Elt Ideal) arg3.view (Rect.unit ![0, 0] S1x256.size inb_S1x256_S1x256_0_0).toLoadRect (harg3.unread x2)) : FVec Ideal S512x256 .f32) (ix2 t q) = dilated 3 (stackOf x1) (vecOf x2) (pool 1 (rowsOf x0)) t q := by
  refine (conv_entry _ (kernelRun0_A.sl.v48 (F := Ideal) c arg1 harg1 arg2 harg2 arg11 arg12 arg13 x0 x1) (kernelRun0_A.sl.v49 (F := Ideal) c arg1 harg1 arg2 harg2 arg11 arg12 arg14 x0 x1) (kernelRun0_A.sl.v51 (F := Ideal) c arg1 harg1 arg2 harg2 arg11 arg12 arg15 x0 x1) _ _ _ _ t q).trans ?_
  exact sum4 (conv1_tap0 c arg1 harg1 arg2 harg2 arg11 arg12 arg13 x0 x1 t q) (conv1_tap1 c arg1 harg1 arg2 harg2 arg11 arg12 arg14 x0 x1 t q) (conv1_tap2 c arg1 harg1 arg2 harg2 arg11 arg12 arg15 x0 x1 t q)
    (read_row _ _ _ _ q)

/-- The line buffer after convolution 1: its rows between rows of zeros. -/
theorem line2 (y : S560x256.Idx) :
    View.canon (kernelRun0_A.sl.HS0_6 (F := Ideal) c arg1 harg1 arg2 harg2 arg3 harg3 arg8 harg8 arg11 arg12 arg13 arg14 arg15 x0 x1 x2 x7) y = padAt 0 (dilated 3 (stackOf x1) (vecOf x2) (pool 1 (rowsOf x0))) (y 0).val (y 1) :=
  canon_line _ _ _ _ _ _ 0 (fun _ => Ideal.ofBits_zero_f32) (fun _ => Ideal.ofBits_zero_f32) _ (fun t q => line2_mid c arg1 harg1 arg2 harg2 arg3 harg3 arg8 harg8 arg11 arg12 arg13 arg14 arg15 x0 x1 x2 x7 t q) _ y

/-- Convolution 2, tap 0. -/
theorem conv2_tap0 (t : Fin 512) (q : Fin 256) :
    kernelRun0_A.sl.v99 (F := Ideal) c arg1 harg1 arg2 harg2 arg3 harg3 arg4 harg4 arg8 harg8 arg11 arg12 arg13 arg14 arg15 x0 x1 x2 x3 x7 (ix2 t q) = tap (dilated 3 (stackOf x1) (vecOf x2) (pool 1 (rowsOf x0))) (24 - 5 + t.val) (stackOf x3 0) q := by
  refine (congrFun (View.readCov_cons_unit_lit' _ _ _ _ _ (by decide) (by decide)) _).trans ?_
  exact dot_tap _ rfl none _ _ _ _ (dilated 3 (stackOf x1) (vecOf x2) (pool 1 (rowsOf x0))) (stackOf x3 0) _ (fun t q => read_line _ _ _ (line2 c arg1 harg1 arg2 harg2 arg3 harg3 arg8 harg8 arg11 arg12 arg13 arg14 arg15 x0 x1 x2 x7) 19 _ t q)
    (fun a b => read_stack _ _ _ 0 (by decide) _ a b) t q

/-- Convolution 2, tap 1. -/
theorem conv2_tap1 (t : Fin 512) (q : Fin 256) :
    kernelRun0_A.sl.v100 (F := Ideal) c arg1 harg1 arg2 harg2 arg3 harg3 arg4 harg4 arg8 harg8 arg11 arg12 arg13 arg14 arg15 x0 x1 x2 x3 x7 (ix2 t q) = tap (dilated 3 (stackOf x1) (vecOf x2) (pool 1 (rowsOf x0))) (24 + t.val) (stackOf x3 1) q := by
  refine (congrFun (View.readCov_cons_unit_lit' _ _ _ _ _ (by decide) (by decide)) _).trans ?_
  exact dot_tap _ rfl none _ _ _ _ (dilated 3 (stackOf x1) (vecOf x2) (pool 1 (rowsOf x0))) (stackOf x3 1) _ (fun t q => read_line _ _ _ (line2 c arg1 harg1 arg2 harg2 arg3 harg3 arg8 harg8 arg11 arg12 arg13 arg14 arg15 x0 x1 x2 x7) 24 _ t q)
    (fun a b => read_stack _ _ _ 1 (by decide) _ a b) t q

/-- Convolution 2, tap 2. -/
theorem conv2_tap2 (t : Fin 512) (q : Fin 256) :
    kernelRun0_A.sl.v102 (F := Ideal) c arg1 harg1 arg2 harg2 arg3 harg3 arg4 harg4 arg8 harg8 arg11 arg12 arg13 arg14 arg15 x0 x1 x2 x3 x7 (ix2 t q) = tap (dilated 3 (stackOf x1) (vecOf x2) (pool 1 (rowsOf x0))) (24 + 5 + t.val) (stackOf x3 2) q := by
  refine (congrFun (View.readCov_cons_unit_lit' _ _ _ _ _ (by decide) (by decide)) _).trans ?_
  exact dot_tap _ rfl none _ _ _ _ (dilated 3 (stackOf x1) (vecOf x2) (pool 1 (rowsOf x0))) (stackOf x3 2) _ (fun t q => read_line _ _ _ (line2 c arg1 harg1 arg2 harg2 arg3 harg3 arg8 harg8 arg11 arg12 arg13 arg14 arg15 x0 x1 x2 x7) 29 _ t q)
    (fun a b => read_stack _ _ _ 2 (by decide) _ a b) t q

/-- The rows of convolution 2, as they are stored in a line buffer. -/
theorem line3_mid (t : Fin 512) (q : Fin 256) :
    (k0_pay27 (kernelRun0_A.sl.r_1 c arg1 harg1 arg2 harg2 arg3 harg3 arg4 harg4 arg8 harg8 arg11 arg12 arg13 arg14 arg15 x0 x1 x2 x3 x7) (kernelRun0_A.sl.r_2 c arg1 harg1 arg2 harg2 arg3 harg3 arg4 harg4 arg8 harg8 arg11 arg12 arg13 arg14 arg15 x0 x1 x2 x3 x7) (kernelRun0_A.sl.r_3 c arg9 harg9 x8) (View.readAt (Elt Ideal) arg5.view (Rect.unit ![0, 0] S1x256.size inb_S1x256_S1x256_0_0).toLoadRect (harg5.unread x4)) : FVec Ideal S512x256 .f32) (ix2 t q) = dilated 5 (stackOf x3) (vecOf x4) (dilated 3 (stackOf x1) (vecOf x2) (pool 1 (rowsOf x0))) t q := by
  refine (conv_entry _ (kernelRun0_A.sl.v99 (F := Ideal) c arg1 harg1 arg2 harg2 arg3 harg3 arg4 harg4 arg8 harg8 arg11 arg12 arg13 arg14 arg15 x0 x1 x2 x3 x7) (kernelRun0_A.sl.v100 (F := Ideal) c arg1 harg1 arg2 harg2 arg3 harg3 arg4 harg4 arg8 harg8 arg11 arg12 arg13 arg14 arg15 x0 x1 x2 x3 x7) (kernelRun0_A.sl.v102 (F := Ideal) c arg1 harg1 arg2 harg2 arg3 harg3 arg4 harg4 arg8 harg8 arg11 arg12 arg13 arg14 arg15 x0 x1 x2 x3 x7) _ _ _ _ t q).trans ?_
  exact sum4 (conv2_tap0 c arg1 harg1 arg2 harg2 arg3 harg3 arg4 harg4 arg8 harg8 arg11 arg12 arg13 arg14 arg15 x0 x1 x2 x3 x7 t q) (conv2_tap1 c arg1 harg1 arg2 harg2 arg3 harg3 arg4 harg4 arg8 harg8 arg11 arg12 arg13 arg14 arg15 x0 x1 x2 x3 x7 t q) (conv2_tap2 c arg1 harg1 arg2 harg2 arg3 harg3 arg4 harg4 arg8 harg8 arg11 arg12 arg13 arg14 arg15 x0 x1 x2 x3 x7 t q)
    (read_row _ _ _ _ q)

/-- The line buffer after convolution 2: its rows between rows of zeros. -/
theorem line3 (y : S560x256.Idx) :
    View.canon (kernelRun0_A.sl.HS1_6 (F := Ideal) c arg1 harg1 arg2 harg2 arg3 harg3 arg4 harg4 arg5 harg5 arg8 harg8 arg9 harg9 arg11 arg12 arg13 arg14 arg15 x0 x1 x2 x3 x4 x7 x8) y = padAt 0 (dilated 5 (stackOf x3) (vecOf x4) (dilated 3 (stackOf x1) (vecOf x2) (pool 1 (rowsOf x0)))) (y 0).val (y 1) :=
  canon_line _ _ _ _ _ _ 0 (fun _ => Ideal.ofBits_zero_f32) (fun _ => Ideal.ofBits_zero_f32) _ (fun t q => line3_mid c arg1 harg1 arg2 harg2 arg3 harg3 arg4 harg4 arg5 harg5 arg8 harg8 arg9 harg9 arg11 arg12 arg13 arg14 arg15 x0 x1 x2 x3 x4 x7 x8 t q) _ y

/-- The running sum after 1 taps. -/
theorem acc1 (t : Fin 512) (n : Fin 20) :
    kernelRun0_A.sl.v136 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 1, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_first _ rfl none _ _ _ _ (dilated 5 (stackOf x3) (vecOf x4) (dilated 3 (stackOf x1) (vecOf x2) (pool 1 (rowsOf x0)))) (stackAt x5) (25 - 12 / 2)
    (fun t q => read_line _ _ _ (line3 c arg1 harg1 arg2 harg2 arg3 harg3 arg4 harg4 arg5 harg5 arg8 harg8 arg9 harg9 arg11 arg12 arg13 arg14 arg15 x0 x1 x2 x3 x4 x7 x8) 19 _ t q) (fun a b => read_stackAt _ _ _ 0 _ a b) t n

/-- The running sum after 2 taps. -/
theorem acc2 (t : Fin 512) (n : Fin 20) :
    kernelRun0_A.sl.v145 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 2, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 1 (acc1 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 20 _ t q) (fun a b => read_stackAt _ _ _ 1 _ a b) t n

/-- The running sum after 3 taps. -/
theorem acc3 (t : Fin 512) (n : Fin 20) :
    kernelRun0_A.sl.v154 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 3, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 2 (acc2 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 21 _ t q) (fun a b => read_stackAt _ _ _ 2 _ a b) t n

/-- The running sum after 4 taps. -/
theorem acc4 (t : Fin 512) (n : Fin 20) :
    kernelRun0_A.sl.v163 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 4, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 3 (acc3 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 22 _ t q) (fun a b => read_stackAt _ _ _ 3 _ a b) t n

/-- The running sum after 5 taps. -/
theorem acc5 (t : Fin 512) (n : Fin 20) :
    kernelRun0_A.sl.v172 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 5, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 4 (acc4 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 23 _ t q) (fun a b => read_stackAt _ _ _ 4 _ a b) t n

/-- The running sum after 6 taps. -/
theorem acc6 (t : Fin 512) (n : Fin 20) :
    kernelRun0_A.sl.v181 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 6, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 5 (acc5 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 24 _ t q) (fun a b => read_stackAt _ _ _ 5 _ a b) t n

/-- The running sum after 7 taps. -/
theorem acc7 (t : Fin 512) (n : Fin 20) :
    kernelRun0_A.sl.v190 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 7, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 6 (acc6 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 25 _ t q) (fun a b => read_stackAt _ _ _ 6 _ a b) t n

/-- The running sum after 8 taps. -/
theorem acc8 (t : Fin 512) (n : Fin 20) :
    kernelRun0_A.sl.v199 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 8, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 7 (acc7 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 26 _ t q) (fun a b => read_stackAt _ _ _ 7 _ a b) t n

/-- The running sum after 9 taps. -/
theorem acc9 (t : Fin 512) (n : Fin 20) :
    kernelRun0_A.sl.v208 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 9, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 8 (acc8 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 27 _ t q) (fun a b => read_stackAt _ _ _ 8 _ a b) t n

/-- The running sum after 10 taps. -/
theorem acc10 (t : Fin 512) (n : Fin 20) :
    kernelRun0_A.sl.v217 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 10, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 9 (acc9 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 28 _ t q) (fun a b => read_stackAt _ _ _ 9 _ a b) t n

/-- The running sum after 11 taps. -/
theorem acc11 (t : Fin 512) (n : Fin 20) :
    kernelRun0_A.sl.v226 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 11, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 10 (acc10 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 29 _ t q) (fun a b => read_stackAt _ _ _ 10 _ a b) t n

/-- The running sum after 12 taps. -/
theorem acc12 (t : Fin 512) (n : Fin 20) :
    kernelRun0_A.sl.v235 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 12, tap (dilated 5 (stackOf x3) (vecOf x4) (dilated 3 (stackOf x1) (vecOf x2) (pool 1 (rowsOf x0)))) (25 - 12 / 2 + j + t.val) (stackAt x5 j) n := by
  refine (congrFun (View.readCov_cons_unit_lit' _ _ _ _ _ (by decide) (by decide)) _).trans ?_
  exact acc_step _ rfl none _ _ _ _ _ (dilated 5 (stackOf x3) (vecOf x4) (dilated 3 (stackOf x1) (vecOf x2) (pool 1 (rowsOf x0)))) (stackAt x5) (25 - 12 / 2) 11 (acc11 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 30 _ t q) (fun a b => read_stackAt _ _ _ 11 _ a b) t n

/-- The block one grid point leaves: the branch's scores of its batch row. -/
theorem block (i : grid0.Coords) (t : Fin 512) (n : Fin 20) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) t n)
      = branch 1 12 (rowsOf x0) (stackOf x1) (vecOf x2) (stackOf x3) (vecOf x4) (stackOf x5) (vecOf x6) t n := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  refine (congrFun (View.canon_cons_unit_lit' _ _ _ (by decide)) _).trans ?_
  refine (classify_entry _ _ x5 _ _ _ (dilated 5 (stackOf x3) (vecOf x4) (dilated 3 (stackOf x1) (vecOf x2) (pool 1 (rowsOf x0)))) (fun t n => acc12 c arg1 harg1 arg2 harg2 arg3 harg3 arg4 harg4 arg5 harg5 arg6 harg6 arg8 harg8 arg9 harg9 arg11 arg12 arg13 arg14 arg15 arg16 x0 x1 x2 x3 x4 x5 x7 x8 t n) t n).trans ?_
  unfold branch
  exact congrArg (fun b => classify 12 (stackOf x5) b (dilated 5 (stackOf x3) (vecOf x4) (dilated 3 (stackOf x1) (vecOf x2) (pool 1 (rowsOf x0)))) t n) (funext fun q => read_row _ _ _ _ q)

end Cert.Branch0

end
-- ==== Proof.Array0.lean ====
module

public import proofs.«01_k».proof.Proof.Branch0
public import Idealize.ShloMosaic.Lib.Pipeline.ValueKit.Geometry

@[expose] public section

/-! # Branch 0: the array after its kernel

A weight or bias block is its whole array at every grid point; the input and the result are cut by batch element. -/

namespace Cert.Array0

open Idealize Idealize.ShloMosaic Idealize.ShloMosaic.ValueIdx Idealize.ShloMosaic.TcCoe Idealize.SL.Sem
open Cert.KernelIdeal Cert.KernelIdeal.Gen Cert.Spec Cert.Padded

variable (V : (c : Dev nD) → (b : Ref sig .tc) → Buf (Elt Ideal) ((c : Thread nD τ).loc b)) (c : Dev nD)

/-! ## The blocks that are whole arrays -/

theorem index1 : ∀ t : Fin cfg0.N, win0_1.index t (0 : Fin 3) = 0 ∧ win0_1.index t (1 : Fin 3) = 0 ∧ win0_1.index t (2 : Fin 3) = 0 := (by decide +kernel : ∀ t : Fin grid0.N, _)
theorem input1 (t : Fin cfg0.N) : iblk0 V c 1 t = V c main_v0 := by
  funext j
  show V c main_v0 (((cfg0.win 1).blk t).view.emb j) = V c main_v0 j
  refine congrArg (V c main_v0) ?_
  obtain ⟨e0, e1, e2⟩ := index1 t
  funext a; apply Fin.ext
  match a with
  | ⟨0, _⟩ => show win0_1.index t (0 : Fin 3) * 3 + 1 * (j 0).val = (j 0).val; omega
  | ⟨1, _⟩ => show win0_1.index t (1 : Fin 3) * 256 + 1 * (j 1).val = (j 1).val; omega
  | ⟨2, _⟩ => show win0_1.index t (2 : Fin 3) * 256 + 1 * (j 2).val = (j 2).val; omega

theorem index2 : ∀ t : Fin cfg0.N, win0_2.index t (0 : Fin 2) = 0 ∧ win0_2.index t (1 : Fin 2) = 0 := (by decide +kernel : ∀ t : Fin grid0.N, _)
theorem input2 (t : Fin cfg0.N) : iblk0 V c 2 t = V c main_v4 := by
  funext j
  show V c main_v4 (((cfg0.win 2).blk t).view.emb j) = V c main_v4 j
  refine congrArg (V c main_v4) ?_
  obtain ⟨e0, e1⟩ := index2 t
  funext a; apply Fin.ext
  match a with
  | ⟨0, _⟩ => show win0_2.index t (0 : Fin 2) * 1 + 1 * (j 0).val = (j 0).val; omega
  | ⟨1, _⟩ => show win0_2.index t (1 : Fin 2) * 256 + 1 * (j 1).val = (j 1).val; omega

theorem index3 : ∀ t : Fin cfg0.N, win0_3.index t (0 : Fin 3) = 0 ∧ win0_3.index t (1 : Fin 3) = 0 ∧ win0_3.index t (2 : Fin 3) = 0 := (by decide +kernel : ∀ t : Fin grid0.N, _)
theorem input3 (t : Fin cfg0.N) : iblk0 V c 3 t = V c main_v1 := by
  funext j
  show V c main_v1 (((cfg0.win 3).blk t).view.emb j) = V c main_v1 j
  refine congrArg (V c main_v1) ?_
  obtain ⟨e0, e1, e2⟩ := index3 t
  funext a; apply Fin.ext
  match a with
  | ⟨0, _⟩ => show win0_3.index t (0 : Fin 3) * 3 + 1 * (j 0).val = (j 0).val; omega
  | ⟨1, _⟩ => show win0_3.index t (1 : Fin 3) * 256 + 1 * (j 1).val = (j 1).val; omega
  | ⟨2, _⟩ => show win0_3.index t (2 : Fin 3) * 256 + 1 * (j 2).val = (j 2).val; omega

theorem index4 : ∀ t : Fin cfg0.N, win0_4.index t (0 : Fin 2) = 0 ∧ win0_4.index t (1 : Fin 2) = 0 := (by decide +kernel : ∀ t : Fin grid0.N, _)
theorem input4 (t : Fin cfg0.N) : iblk0 V c 4 t = V c main_v5 := by
  funext j
  show V c main_v5 (((cfg0.win 4).blk t).view.emb j) = V c main_v5 j
  refine congrArg (V c main_v5) ?_
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 256 + 1 * (j 1).val = (j 1).val; omega

theorem index5 : ∀ t : Fin cfg0.N, win0_5.index t (0 : Fin 3) = 0 ∧ win0_5.index t (1 : Fin 3) = 0 ∧ win0_5.index t (2 : Fin 3) = 0 := (by decide +kernel : ∀ t : Fin grid0.N, _)
theorem input5 (t : Fin cfg0.N) : iblk0 V c 5 t = V c main_v3 := by
  funext j
  show V c main_v3 (((cfg0.win 5).blk t).view.emb j) = V c main_v3 j
  refine congrArg (V c main_v3) ?_
  obtain ⟨e0, e1, e2⟩ := index5 t
  funext a; apply Fin.ext
  match a with
  | ⟨0, _⟩ => show win0_5.index t (0 : Fin 3) * 12 + 1 * (j 0).val = (j 0).val; omega
  | ⟨1, _⟩ => show win0_5.index t (1 : Fin 3) * 256 + 1 * (j 1).val = (j 1).val; omega
  | ⟨2, _⟩ => show win0_5.index t (2 : Fin 3) * 20 + 1 * (j 2).val = (j 2).val; omega

theorem index6 : ∀ t : Fin cfg0.N, win0_6.index t (0 : Fin 2) = 0 ∧ win0_6.index t (1 : Fin 2) = 0 := (by decide +kernel : ∀ t : Fin grid0.N, _)
theorem input6 (t : Fin cfg0.N) : iblk0 V c 6 t = V c main_v6 := by
  funext j
  show V c main_v6 (((cfg0.win 6).blk t).view.emb j) = V c main_v6 j
  refine congrArg (V c main_v6) ?_
  obtain ⟨e0, e1⟩ := index6 t
  funext a; apply Fin.ext
  match a with
  | ⟨0, _⟩ => show win0_6.index t (0 : Fin 2) * 1 + 1 * (j 0).val = (j 0).val; omega
  | ⟨1, _⟩ => show win0_6.index t (1 : Fin 2) * 20 + 1 * (j 1).val = (j 1).val; omega

/-! ## The blocks cut by batch element -/

theorem index0 : ∀ t : Fin cfg0.N, win0_0.index t (0 : Fin 3) = (grid0.coords t 0).val ∧ win0_0.index t (1 : Fin 3) = 0 ∧ win0_0.index t (2 : Fin 3) = 0 :=
  (by decide +kernel : ∀ t : Fin grid0.N, _)
theorem index9 : ∀ t : Fin cfg0.N, win0_9.index t (0 : Fin 3) = (grid0.coords t 0).val ∧ win0_9.index t (1 : Fin 3) = 0 ∧ win0_9.index t (2 : Fin 3) = 0 :=
  (by decide +kernel : ∀ t : Fin grid0.N, _)

/-- The batch element of a grid point. -/
abbrev batchAt (t : Fin cfg0.N) : Fin 4 := grid0.coords t 0

/-- The input block at a grid point is that batch element's rows. -/
theorem input0 (t : Fin cfg0.N) : rowsOf (iblk0 V c 0 t) = fun s ch => (V c main_arg0 : Vec Ideal S4x512x256 .f32) (ix3 (batchAt t) s ch) := by
  funext s ch
  show V c main_arg0 (((cfg0.win 0).blk t).view.emb (ix3 (0 : Fin 1) s ch)) = _
  refine congrArg (V c main_arg0) ?_
  obtain ⟨e0, e1, e2⟩ := index0 t
  funext a; apply Fin.ext
  match a with
  | ⟨0, _⟩ => show win0_0.index t (0 : Fin 3) * 1 + 1 * 0 = (grid0.coords t 0).val; omega
  | ⟨1, _⟩ => show win0_0.index t (1 : Fin 3) * 512 + 1 * s.val = s.val; omega
  | ⟨2, _⟩ => show win0_0.index t (2 : Fin 3) * 256 + 1 * ch.val = ch.val; omega

/-- The branch's scores as one array, of the arrays that its kernel reads. -/
noncomputable def result : Vec Ideal S4x512x20 .f32 := fun j =>
  branch 1 12 (fun s ch => (V c main_arg0 : Vec Ideal S4x512x256 .f32) (ix3 (j 0) s ch)) (stackOf (V c main_v0)) (vecOf (V c main_v4)) (stackOf (V c main_v1)) (vecOf (V c main_v5)) (stackOf (V c main_v3)) (vecOf (V c main_v6)) (j 1) (j 2)

/-- The result array after the kernel. -/
theorem final : (dat0 V c).arrAt 9 cfg0.N = result V c := by
  refine (dat0 V c).arrAt_eq_of_covers 9 (result V c) (by decide +kernel) fun t _ y => ?_
  show (dat0 V c).after 9 t y = result V c (((cfg0.win 9).blk t).view.emb y)
  have e : ((cfg0.win 9).blk t).view.emb y = ix3 (batchAt t) (y 1) (y 2) := by
    obtain ⟨e0, e1, e2⟩ := index9 t
    funext a; apply Fin.ext
    match a with
    | ⟨0, _⟩ =>
      have h0 : (y 0).val < 1 := (y 0).isLt
      show win0_9.index t (0 : Fin 3) * 1 + 1 * (y 0).val = (grid0.coords t 0).val; omega
    | ⟨1, _⟩ => show win0_9.index t (1 : Fin 3) * 512 + 1 * (y 1).val = (y 1).val; omega
    | ⟨2, _⟩ => show win0_9.index t (2 : Fin 3) * 20 + 1 * (y 2).val = (y 2).val; omega
  have ey : (y : S1x512x20.Idx) = ix3 (0 : Fin 1) (y 1) (y 2) := by
    funext a; apply Fin.ext
    match a with
    | ⟨0, _⟩ =>
      have h0 : (y 0).val < 1 := (y 0).isLt
      show (y 0).val = 0; omega
    | ⟨1, _⟩ => rfl
    | ⟨2, _⟩ => rfl
  rw [e, after0_9]
  unfold outsAt0
  refine (congrArg _ ey).trans ?_
  refine (Cert.Branch0.block c _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (grid0.coords t) (y 1) (y 2)).trans ?_
  rw [input0, input1, input2, input3, input4, input5, input6]
  rfl

end Cert.Array0

end
-- ==== Proof.Branch1.lean ====
module

public import proofs.«01_k».proof.Proof.Gen.KernelIdeal.Frame
public import proofs.«01_k».proof.Proof.Padded

@[expose] public section

/-! # Branch 1: what one grid point of the branch kernel leaves in its output block

The line buffers, the two convolutions, the classifier's running sum, and the block. -/

namespace Cert.Branch1

open Idealize Idealize.ShloMosaic Idealize.ShloMosaic.ValueIdx
open Cert.KernelIdeal Cert.KernelIdeal.Gen Cert.Spec Cert.Padded
open scoped BigOperators

variable (c : Dev nD)
  (arg1 : Memref sig .tc .vmem S1x512x256 .f32) (harg1 : arg1.IsWhole)
  (arg2 : Memref sig .tc .vmem S3x256x256 .f32) (harg2 : arg2.IsWhole)
  (arg3 : Memref sig .tc .vmem S1x256 .f32) (harg3 : arg3.IsWhole)
  (arg4 : Memref sig .tc .vmem S3x256x256 .f32) (harg4 : arg4.IsWhole)
  (arg5 : Memref sig .tc .vmem S1x256 .f32) (harg5 : arg5.IsWhole)
  (arg6 : Memref sig .tc .vmem S24x256x20 .f32) (harg6 : arg6.IsWhole)
  (arg7 : Memref sig .tc .vmem S1x20 .f32) (harg7 : arg7.IsWhole)
  (arg8 : Memref sig .tc .vmem S1x512x1 .f32) (harg8 : arg8.IsWhole)
  (arg9 : Memref sig .tc .vmem S1x512x1 .f32) (harg9 : arg9.IsWhole)
  (arg10 : Memref sig .tc .vmem S1x512x20 .f32) (harg10 : arg10.IsWhole)
  (arg11 : Memref sig .tc .vmem S560x256 .f32) (harg11 : arg11.IsWhole)
  (arg12 : Memref sig .tc .vmem S560x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x20 .f32) (harg16 : arg16.IsWhole)
  (x0 : Vec Ideal S1x512x256 .f32)
  (x1 : Vec Ideal S3x256x256 .f32)
  (x2 : Vec Ideal S1x256 .f32)
  (x3 : Vec Ideal S3x256x256 .f32)
  (x4 : Vec Ideal S1x256 .f32)
  (x5 : Vec Ideal S24x256x20 .f32)
  (x6 : Vec Ideal S1x20 .f32)
  (x7 : Vec Ideal S1x512x1 .f32)
  (x8 : Vec Ideal S1x512x1 .f32)

/-- The input rows, as they are stored in the first line buffer. -/
theorem line0_mid (t : Fin 512) (q : Fin 256) :
    k1_pay6 (F := Ideal) (View.readAt (Elt Ideal) arg1.view (Rect.unit ![0, 0, 0] S1x512x256.size inb_S1x512x256_S1x512x256_0_0_0).toLoadRect (harg1.unread x0)) (ix2 t q) = rowsOf x0 t q := by
  unfold k1_pay6
  refine (rows_cast _ _ _ t q).trans ?_
  exact read_stack arg1 harg1 x0 0 (by decide) _ t q

/-- The first line buffer before pooling: the input rows between rows of `-∞`. -/
theorem line0 (y : S560x256.Idx) :
    View.canon (kernelRun1_A.sl.HS0_3 (F := Ideal) c arg1 harg1 x0) y = padAt ⊥ (rowsOf x0) (y 0).val (y 1) :=
  canon_line _ _ _ _ _ _ ⊥ (fun _ => negInf) (fun _ => negInf) _ (fun t q => line0_mid arg1 harg1 x0 t q) _ y

/-- The pooled rows, as they are stored in the second line buffer. -/
theorem line1_mid (t : Fin 512) (q : Fin 256) :
    (k1_pay10 (kernelRun1_A.sl.r c arg1 harg1 arg11 x0) : FVec Ideal S512x256 .f32) (ix2 t q) = pool 2 (rowsOf x0) t q := by
  unfold k1_pay10 kernelRun1_A.sl.r k1_pay7
  refine (mid_cast _ _ t q).trans ?_
  exact (sup_step (fun j => padAt ⊥ (rowsOf x0) (24 - 2 + j + t.val) q) 4 (sup_step (fun j => padAt ⊥ (rowsOf x0) (24 - 2 + j + t.val) q) 3 (sup_step (fun j => padAt ⊥ (rowsOf x0) (24 - 2 + j + t.val) q) 2 (sup_step (fun j => padAt ⊥ (rowsOf x0) (24 - 2 + j + t.val) q) 1 (sup_first (fun j => padAt ⊥ (rowsOf x0) (24 - 2 + j + t.val) q) (read_line _ _ _ (line0 c arg1 harg1 x0) 22 _ t q)) (read_line _ _ _ (line0 c arg1 harg1 x0) 23 _ t q)) (read_line _ _ _ (line0 c arg1 harg1 x0) 24 _ t q)) (read_line _ _ _ (line0 c arg1 harg1 x0) 25 _ t q)) (read_line _ _ _ (line0 c arg1 harg1 x0) 26 _ t q))

/-- The second line buffer before the first convolution: the pooled rows between rows of zeros. -/
theorem line1 (y : S560x256.Idx) :
    View.canon (kernelRun1_A.sl.HS1_3 (F := Ideal) c arg1 harg1 arg11 x0) y = padAt 0 (pool 2 (rowsOf x0)) (y 0).val (y 1) :=
  canon_line _ _ _ _ _ _ 0 (fun _ => Ideal.ofBits_zero_f32) (fun _ => Ideal.ofBits_zero_f32) _ (fun t q => line1_mid c arg1 harg1 arg11 x0 t q) _ y

/-- Convolution 1, tap 0. -/
theorem conv1_tap0 (t : Fin 512) (q : Fin 256) :
    kernelRun1_A.sl.v52 (F := Ideal) c arg1 harg1 arg2 harg2 arg11 arg12 arg13 x0 x1 (ix2 t q) = tap (pool 2 (rowsOf x0)) (24 - 5 + t.val) (stackOf x1 0) q := by
  refine (congrFun (View.readCov_cons_unit_lit' _ _ _ _ _ (by decide) (by decide)) _).trans ?_
  exact dot_tap _ rfl none _ _ _ _ (pool 2 (rowsOf x0)) (stackOf x1 0) _ (fun t q => read_line _ _ _ (line1 c arg1 harg1 arg11 x0) 19 _ t q)
    (fun a b => read_stack _ _ _ 0 (by decide) _ a b) t q

/-- Convolution 1, tap 1. -/
theorem conv1_tap1 (t : Fin 512) (q : Fin 256) :
    kernelRun1_A.sl.v53 (F := Ideal) c arg1 harg1 arg2 harg2 arg11 arg12 arg14 x0 x1 (ix2 t q) = tap (pool 2 (rowsOf x0)) (24 + t.val) (stackOf x1 1) q := by
  refine (congrFun (View.readCov_cons_unit_lit' _ _ _ _ _ (by decide) (by decide)) _).trans ?_
  exact dot_tap _ rfl none _ _ _ _ (pool 2 (rowsOf x0)) (stackOf x1 1) _ (fun t q => read_line _ _ _ (line1 c arg1 harg1 arg11 x0) 24 _ t q)
    (fun a b => read_stack _ _ _ 1 (by decide) _ a b) t q

/-- Convolution 1, tap 2. -/
theorem conv1_tap2 (t : Fin 512) (q : Fin 256) :
    kernelRun1_A.sl.v55 (F := Ideal) c arg1 harg1 arg2 harg2 arg11 arg12 arg15 x0 x1 (ix2 t q) = tap (pool 2 (rowsOf x0)) (24 + 5 + t.val) (stackOf x1 2) q := by
  refine (congrFun (View.readCov_cons_unit_lit' _ _ _ _ _ (by decide) (by decide)) _).trans ?_
  exact dot_tap _ rfl none _ _ _ _ (pool 2 (rowsOf x0)) (stackOf x1 2) _ (fun t q => read_line _ _ _ (line1 c arg1 harg1 arg11 x0) 29 _ t q)
    (fun a b => read_stack _ _ _ 2 (by decide) _ a b) t q

/-- The rows of convolution 1, as they are stored in a line buffer. -/
theorem line2_mid (t : Fin 512) (q : Fin 256) :
    (k1_pay17 (kernelRun1_A.sl.r_1 c arg1 harg1 arg2 harg2 arg11 arg12 arg13 arg14 x0 x1) (kernelRun1_A.sl.v55 c arg1 harg1 arg2 harg2 arg11 arg12 arg15 x0 x1) (kernelRun1_A.sl.v53 c arg1 harg1 arg2 harg2 arg11 arg12 arg14 x0 x1) (kernelRun1_A.sl.v55 c arg1 harg1 arg2 harg2 arg11 arg12 arg15 x0 x1) (kernelRun1_A.sl.v52 c arg1 harg1 arg2 harg2 arg11 arg12 arg13 x0 x1) (View.readAt (Elt Ideal) arg8.view (Rect.unit ![0, 0, 0] S1x512x1.size inb_S1x512x1_S1x512x1_0_0_0).toLoadRect (harg8.unread x7)) (View.readAt (Elt Ideal) arg3.view (Rect.unit ![0, 0] S1x256.size inb_S1x256_S1x256_0_0).toLoadRect (harg3.unread x2)) : FVec Ideal S512x256 .f32) (ix2 t q) = dilated 5 (stackOf x1) (vecOf x2) (pool 2 (rowsOf x0)) t q := by
  refine (conv_entry _ (kernelRun1_A.sl.v52 (F := Ideal) c arg1 harg1 arg2 harg2 arg11 arg12 arg13 x0 x1) (kernelRun1_A.sl.v53 (F := Ideal) c arg1 harg1 arg2 harg2 arg11 arg12 arg14 x0 x1) (kernelRun1_A.sl.v55 (F := Ideal) c arg1 harg1 arg2 harg2 arg11 arg12 arg15 x0 x1) _ _ _ _ t q).trans ?_
  exact sum4 (conv1_tap0 c arg1 harg1 arg2 harg2 arg11 arg12 arg13 x0 x1 t q) (conv1_tap1 c arg1 harg1 arg2 harg2 arg11 arg12 arg14 x0 x1 t q) (conv1_tap2 c arg1 harg1 arg2 harg2 arg11 arg12 arg15 x0 x1 t q)
    (read_row _ _ _ _ q)

/-- The line buffer after convolution 1: its rows between rows of zeros. -/
theorem line2 (y : S560x256.Idx) :
    View.canon (kernelRun1_A.sl.HS0_6 (F := Ideal) c arg1 harg1 arg2 harg2 arg3 harg3 arg8 harg8 arg11 arg12 arg13 arg14 arg15 x0 x1 x2 x7) y = padAt 0 (dilated 5 (stackOf x1) (vecOf x2) (pool 2 (rowsOf x0))) (y 0).val (y 1) :=
  canon_line _ _ _ _ _ _ 0 (fun _ => Ideal.ofBits_zero_f32) (fun _ => Ideal.ofBits_zero_f32) _ (fun t q => line2_mid c arg1 harg1 arg2 harg2 arg3 harg3 arg8 harg8 arg11 arg12 arg13 arg14 arg15 x0 x1 x2 x7 t q) _ y

/-- Convolution 2, tap 0. -/
theorem conv2_tap0 (t : Fin 512) (q : Fin 256) :
    kernelRun1_A.sl.v103 (F := Ideal) c arg1 harg1 arg2 harg2 arg3 harg3 arg4 harg4 arg8 harg8 arg11 arg12 arg13 arg14 arg15 x0 x1 x2 x3 x7 (ix2 t q) = tap (dilated 5 (stackOf x1) (vecOf x2) (pool 2 (rowsOf x0))) (24 - 9 + t.val) (stackOf x3 0) q := by
  refine (congrFun (View.readCov_cons_unit_lit' _ _ _ _ _ (by decide) (by decide)) _).trans ?_
  exact dot_tap _ rfl none _ _ _ _ (dilated 5 (stackOf x1) (vecOf x2) (pool 2 (rowsOf x0))) (stackOf x3 0) _ (fun t q => read_line _ _ _ (line2 c arg1 harg1 arg2 harg2 arg3 harg3 arg8 harg8 arg11 arg12 arg13 arg14 arg15 x0 x1 x2 x7) 15 _ t q)
    (fun a b => read_stack _ _ _ 0 (by decide) _ a b) t q

/-- Convolution 2, tap 1. -/
theorem conv2_tap1 (t : Fin 512) (q : Fin 256) :
    kernelRun1_A.sl.v104 (F := Ideal) c arg1 harg1 arg2 harg2 arg3 harg3 arg4 harg4 arg8 harg8 arg11 arg12 arg13 arg14 arg15 x0 x1 x2 x3 x7 (ix2 t q) = tap (dilated 5 (stackOf x1) (vecOf x2) (pool 2 (rowsOf x0))) (24 + t.val) (stackOf x3 1) q := by
  refine (congrFun (View.readCov_cons_unit_lit' _ _ _ _ _ (by decide) (by decide)) _).trans ?_
  exact dot_tap _ rfl none _ _ _ _ (dilated 5 (stackOf x1) (vecOf x2) (pool 2 (rowsOf x0))) (stackOf x3 1) _ (fun t q => read_line _ _ _ (line2 c arg1 harg1 arg2 harg2 arg3 harg3 arg8 harg8 arg11 arg12 arg13 arg14 arg15 x0 x1 x2 x7) 24 _ t q)
    (fun a b => read_stack _ _ _ 1 (by decide) _ a b) t q

/-- Convolution 2, tap 2. -/
theorem conv2_tap2 (t : Fin 512) (q : Fin 256) :
    kernelRun1_A.sl.v106 (F := Ideal) c arg1 harg1 arg2 harg2 arg3 harg3 arg4 harg4 arg8 harg8 arg11 arg12 arg13 arg14 arg15 x0 x1 x2 x3 x7 (ix2 t q) = tap (dilated 5 (stackOf x1) (vecOf x2) (pool 2 (rowsOf x0))) (24 + 9 + t.val) (stackOf x3 2) q := by
  refine (congrFun (View.readCov_cons_unit_lit' _ _ _ _ _ (by decide) (by decide)) _).trans ?_
  exact dot_tap _ rfl none _ _ _ _ (dilated 5 (stackOf x1) (vecOf x2) (pool 2 (rowsOf x0))) (stackOf x3 2) _ (fun t q => read_line _ _ _ (line2 c arg1 harg1 arg2 harg2 arg3 harg3 arg8 harg8 arg11 arg12 arg13 arg14 arg15 x0 x1 x2 x7) 33 _ t q)
    (fun a b => read_stack _ _ _ 2 (by decide) _ a b) t q

/-- The rows of convolution 2, as they are stored in a line buffer. -/
theorem line3_mid (t : Fin 512) (q : Fin 256) :
    (k1_pay26 (kernelRun1_A.sl.r_3 c arg1 harg1 arg2 harg2 arg3 harg3 arg4 harg4 arg8 harg8 arg11 arg12 arg13 arg14 arg15 x0 x1 x2 x3 x7) (kernelRun1_A.sl.r_4 c arg1 harg1 arg2 harg2 arg3 harg3 arg4 harg4 arg8 harg8 arg11 arg12 arg13 arg14 arg15 x0 x1 x2 x3 x7) (View.readAt (Elt Ideal) arg9.view (Rect.unit ![0, 0, 0] S1x512x1.size inb_S1x512x1_S1x512x1_0_0_0).toLoadRect (harg9.unread x8)) (View.readAt (Elt Ideal) arg5.view (Rect.unit ![0, 0] S1x256.size inb_S1x256_S1x256_0_0).toLoadRect (harg5.unread x4)) : FVec Ideal S512x256 .f32) (ix2 t q) = dilated 9 (stackOf x3) (vecOf x4) (dilated 5 (stackOf x1) (vecOf x2) (pool 2 (rowsOf x0))) t q := by
  refine (conv_entry _ (kernelRun1_A.sl.v103 (F := Ideal) c arg1 harg1 arg2 harg2 arg3 harg3 arg4 harg4 arg8 harg8 arg11 arg12 arg13 arg14 arg15 x0 x1 x2 x3 x7) (kernelRun1_A.sl.v104 (F := Ideal) c arg1 harg1 arg2 harg2 arg3 harg3 arg4 harg4 arg8 harg8 arg11 arg12 arg13 arg14 arg15 x0 x1 x2 x3 x7) (kernelRun1_A.sl.v106 (F := Ideal) c arg1 harg1 arg2 harg2 arg3 harg3 arg4 harg4 arg8 harg8 arg11 arg12 arg13 arg14 arg15 x0 x1 x2 x3 x7) _ _ _ _ t q).trans ?_
  exact sum4 (conv2_tap0 c arg1 harg1 arg2 harg2 arg3 harg3 arg4 harg4 arg8 harg8 arg11 arg12 arg13 arg14 arg15 x0 x1 x2 x3 x7 t q) (conv2_tap1 c arg1 harg1 arg2 harg2 arg3 harg3 arg4 harg4 arg8 harg8 arg11 arg12 arg13 arg14 arg15 x0 x1 x2 x3 x7 t q) (conv2_tap2 c arg1 harg1 arg2 harg2 arg3 harg3 arg4 harg4 arg8 harg8 arg11 arg12 arg13 arg14 arg15 x0 x1 x2 x3 x7 t q)
    (read_row _ _ _ _ q)

/-- The line buffer after convolution 2: its rows between rows of zeros. -/
theorem line3 (y : S560x256.Idx) :
    View.canon (kernelRun1_A.sl.HS1_6 (F := Ideal) c arg1 harg1 arg2 harg2 arg3 harg3 arg4 harg4 arg5 harg5 arg8 harg8 arg9 harg9 arg11 arg12 arg13 arg14 arg15 x0 x1 x2 x3 x4 x7 x8) y = padAt 0 (dilated 9 (stackOf x3) (vecOf x4) (dilated 5 (stackOf x1) (vecOf x2) (pool 2 (rowsOf x0)))) (y 0).val (y 1) :=
  canon_line _ _ _ _ _ _ 0 (fun _ => Ideal.ofBits_zero_f32) (fun _ => Ideal.ofBits_zero_f32) _ (fun t q => line3_mid c arg1 harg1 arg2 harg2 arg3 harg3 arg4 harg4 arg5 harg5 arg8 harg8 arg9 harg9 arg11 arg12 arg13 arg14 arg15 x0 x1 x2 x3 x4 x7 x8 t q) _ y

/-- The running sum after 1 taps. -/
theorem acc1 (t : Fin 512) (n : Fin 20) :
    kernelRun1_A.sl.v140 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 1, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_first _ rfl none _ _ _ _ (dilated 9 (stackOf x3) (vecOf x4) (dilated 5 (stackOf x1) (vecOf x2) (pool 2 (rowsOf x0)))) (stackAt x5) (25 - 24 / 2)
    (fun t q => read_line _ _ _ (line3 c arg1 harg1 arg2 harg2 arg3 harg3 arg4 harg4 arg5 harg5 arg8 harg8 arg9 harg9 arg11 arg12 arg13 arg14 arg15 x0 x1 x2 x3 x4 x7 x8) 13 _ t q) (fun a b => read_stackAt _ _ _ 0 _ a b) t n

/-- The running sum after 2 taps. -/
theorem acc2 (t : Fin 512) (n : Fin 20) :
    kernelRun1_A.sl.v149 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 2, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 1 (acc1 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 14 _ t q) (fun a b => read_stackAt _ _ _ 1 _ a b) t n

/-- The running sum after 3 taps. -/
theorem acc3 (t : Fin 512) (n : Fin 20) :
    kernelRun1_A.sl.v158 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 3, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 2 (acc2 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 15 _ t q) (fun a b => read_stackAt _ _ _ 2 _ a b) t n

/-- The running sum after 4 taps. -/
theorem acc4 (t : Fin 512) (n : Fin 20) :
    kernelRun1_A.sl.v167 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 4, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 3 (acc3 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 16 _ t q) (fun a b => read_stackAt _ _ _ 3 _ a b) t n

/-- The running sum after 5 taps. -/
theorem acc5 (t : Fin 512) (n : Fin 20) :
    kernelRun1_A.sl.v176 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 5, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 4 (acc4 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 17 _ t q) (fun a b => read_stackAt _ _ _ 4 _ a b) t n

/-- The running sum after 6 taps. -/
theorem acc6 (t : Fin 512) (n : Fin 20) :
    kernelRun1_A.sl.v185 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 6, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 5 (acc5 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 18 _ t q) (fun a b => read_stackAt _ _ _ 5 _ a b) t n

/-- The running sum after 7 taps. -/
theorem acc7 (t : Fin 512) (n : Fin 20) :
    kernelRun1_A.sl.v194 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 7, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 6 (acc6 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 19 _ t q) (fun a b => read_stackAt _ _ _ 6 _ a b) t n

/-- The running sum after 8 taps. -/
theorem acc8 (t : Fin 512) (n : Fin 20) :
    kernelRun1_A.sl.v203 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 8, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 7 (acc7 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 20 _ t q) (fun a b => read_stackAt _ _ _ 7 _ a b) t n

/-- The running sum after 9 taps. -/
theorem acc9 (t : Fin 512) (n : Fin 20) :
    kernelRun1_A.sl.v212 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 9, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 8 (acc8 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 21 _ t q) (fun a b => read_stackAt _ _ _ 8 _ a b) t n

/-- The running sum after 10 taps. -/
theorem acc10 (t : Fin 512) (n : Fin 20) :
    kernelRun1_A.sl.v221 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 10, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 9 (acc9 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 22 _ t q) (fun a b => read_stackAt _ _ _ 9 _ a b) t n

/-- The running sum after 11 taps. -/
theorem acc11 (t : Fin 512) (n : Fin 20) :
    kernelRun1_A.sl.v230 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 11, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 10 (acc10 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 23 _ t q) (fun a b => read_stackAt _ _ _ 10 _ a b) t n

/-- The running sum after 12 taps. -/
theorem acc12 (t : Fin 512) (n : Fin 20) :
    kernelRun1_A.sl.v239 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 12, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 11 (acc11 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 24 _ t q) (fun a b => read_stackAt _ _ _ 11 _ a b) t n

/-- The running sum after 13 taps. -/
theorem acc13 (t : Fin 512) (n : Fin 20) :
    kernelRun1_A.sl.v248 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 13, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 12 (acc12 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 25 _ t q) (fun a b => read_stackAt _ _ _ 12 _ a b) t n

/-- The running sum after 14 taps. -/
theorem acc14 (t : Fin 512) (n : Fin 20) :
    kernelRun1_A.sl.v257 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 14, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 13 (acc13 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 26 _ t q) (fun a b => read_stackAt _ _ _ 13 _ a b) t n

/-- The running sum after 15 taps. -/
theorem acc15 (t : Fin 512) (n : Fin 20) :
    kernelRun1_A.sl.v266 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 15, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 14 (acc14 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 27 _ t q) (fun a b => read_stackAt _ _ _ 14 _ a b) t n

/-- The running sum after 16 taps. -/
theorem acc16 (t : Fin 512) (n : Fin 20) :
    kernelRun1_A.sl.v275 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 16, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 15 (acc15 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 28 _ t q) (fun a b => read_stackAt _ _ _ 15 _ a b) t n

/-- The running sum after 17 taps. -/
theorem acc17 (t : Fin 512) (n : Fin 20) :
    kernelRun1_A.sl.v284 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 17, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 16 (acc16 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 29 _ t q) (fun a b => read_stackAt _ _ _ 16 _ a b) t n

/-- The running sum after 18 taps. -/
theorem acc18 (t : Fin 512) (n : Fin 20) :
    kernelRun1_A.sl.v293 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 18, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 17 (acc17 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 30 _ t q) (fun a b => read_stackAt _ _ _ 17 _ a b) t n

/-- The running sum after 19 taps. -/
theorem acc19 (t : Fin 512) (n : Fin 20) :
    kernelRun1_A.sl.v302 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 19, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 18 (acc18 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 31 _ t q) (fun a b => read_stackAt _ _ _ 18 _ a b) t n

/-- The running sum after 20 taps. -/
theorem acc20 (t : Fin 512) (n : Fin 20) :
    kernelRun1_A.sl.v311 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 20, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 19 (acc19 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 32 _ t q) (fun a b => read_stackAt _ _ _ 19 _ a b) t n

/-- The running sum after 21 taps. -/
theorem acc21 (t : Fin 512) (n : Fin 20) :
    kernelRun1_A.sl.v320 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 21, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 20 (acc20 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 33 _ t q) (fun a b => read_stackAt _ _ _ 20 _ a b) t n

/-- The running sum after 22 taps. -/
theorem acc22 (t : Fin 512) (n : Fin 20) :
    kernelRun1_A.sl.v329 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 22, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 21 (acc21 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 34 _ t q) (fun a b => read_stackAt _ _ _ 21 _ a b) t n

/-- The running sum after 23 taps. -/
theorem acc23 (t : Fin 512) (n : Fin 20) :
    kernelRun1_A.sl.v338 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 23, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 22 (acc22 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 35 _ t q) (fun a b => read_stackAt _ _ _ 22 _ a b) t n

/-- The running sum after 24 taps. -/
theorem acc24 (t : Fin 512) (n : Fin 20) :
    kernelRun1_A.sl.v347 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 24, tap (dilated 9 (stackOf x3) (vecOf x4) (dilated 5 (stackOf x1) (vecOf x2) (pool 2 (rowsOf x0)))) (25 - 24 / 2 + j + t.val) (stackAt x5 j) n := by
  refine (congrFun (View.readCov_cons_unit_lit' _ _ _ _ _ (by decide) (by decide)) _).trans ?_
  exact acc_step _ rfl none _ _ _ _ _ (dilated 9 (stackOf x3) (vecOf x4) (dilated 5 (stackOf x1) (vecOf x2) (pool 2 (rowsOf x0)))) (stackAt x5) (25 - 24 / 2) 23 (acc23 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 36 _ t q) (fun a b => read_stackAt _ _ _ 23 _ a b) t n

/-- The block one grid point leaves: the branch's scores of its batch row. -/
theorem block (i : grid1.Coords) (t : Fin 512) (n : Fin 20) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) t n)
      = branch 2 24 (rowsOf x0) (stackOf x1) (vecOf x2) (stackOf x3) (vecOf x4) (stackOf x5) (vecOf x6) t n := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  refine (congrFun (View.canon_cons_unit_lit' _ _ _ (by decide)) _).trans ?_
  refine (classify_entry _ _ x5 _ _ _ (dilated 9 (stackOf x3) (vecOf x4) (dilated 5 (stackOf x1) (vecOf x2) (pool 2 (rowsOf x0)))) (fun t n => acc24 c arg1 harg1 arg2 harg2 arg3 harg3 arg4 harg4 arg5 harg5 arg6 harg6 arg8 harg8 arg9 harg9 arg11 arg12 arg13 arg14 arg15 arg16 x0 x1 x2 x3 x4 x5 x7 x8 t n) t n).trans ?_
  unfold branch
  exact congrArg (fun b => classify 24 (stackOf x5) b (dilated 9 (stackOf x3) (vecOf x4) (dilated 5 (stackOf x1) (vecOf x2) (pool 2 (rowsOf x0)))) t n) (funext fun q => read_row _ _ _ _ q)

end Cert.Branch1

end
-- ==== Proof.Array1.lean ====
module

public import proofs.«01_k».proof.Proof.Branch1
public import Idealize.ShloMosaic.Lib.Pipeline.ValueKit.Geometry

@[expose] public section

/-! # Branch 1: the array after its kernel

A weight or bias block is its whole array at every grid point; the input and the result are cut by batch element. -/

namespace Cert.Array1

open Idealize Idealize.ShloMosaic Idealize.ShloMosaic.ValueIdx Idealize.ShloMosaic.TcCoe Idealize.SL.Sem
open Cert.KernelIdeal Cert.KernelIdeal.Gen Cert.Spec Cert.Padded

variable (V : (c : Dev nD) → (b : Ref sig .tc) → Buf (Elt Ideal) ((c : Thread nD τ).loc b)) (c : Dev nD)

/-! ## The blocks that are whole arrays -/

theorem index1 : ∀ t : Fin cfg1.N, win1_1.index t (0 : Fin 3) = 0 ∧ win1_1.index t (1 : Fin 3) = 0 ∧ win1_1.index t (2 : Fin 3) = 0 := (by decide +kernel : ∀ t : Fin grid1.N, _)
theorem input1 (t : Fin cfg1.N) : iblk1 V c 1 t = V c main_v8 := by
  funext j
  show V c main_v8 (((cfg1.win 1).blk t).view.emb j) = V c main_v8 j
  refine congrArg (V c main_v8) ?_
  obtain ⟨e0, e1, e2⟩ := index1 t
  funext a; apply Fin.ext
  match a with
  | ⟨0, _⟩ => show win1_1.index t (0 : Fin 3) * 3 + 1 * (j 0).val = (j 0).val; omega
  | ⟨1, _⟩ => show win1_1.index t (1 : Fin 3) * 256 + 1 * (j 1).val = (j 1).val; omega
  | ⟨2, _⟩ => show win1_1.index t (2 : Fin 3) * 256 + 1 * (j 2).val = (j 2).val; omega

theorem index2 : ∀ t : Fin cfg1.N, win1_2.index t (0 : Fin 2) = 0 ∧ win1_2.index t (1 : Fin 2) = 0 := (by decide +kernel : ∀ t : Fin grid1.N, _)
theorem input2 (t : Fin cfg1.N) : iblk1 V c 2 t = V c main_v12 := by
  funext j
  show V c main_v12 (((cfg1.win 2).blk t).view.emb j) = V c main_v12 j
  refine congrArg (V c main_v12) ?_
  obtain ⟨e0, e1⟩ := index2 t
  funext a; apply Fin.ext
  match a with
  | ⟨0, _⟩ => show win1_2.index t (0 : Fin 2) * 1 + 1 * (j 0).val = (j 0).val; omega
  | ⟨1, _⟩ => show win1_2.index t (1 : Fin 2) * 256 + 1 * (j 1).val = (j 1).val; omega

theorem index3 : ∀ t : Fin cfg1.N, win1_3.index t (0 : Fin 3) = 0 ∧ win1_3.index t (1 : Fin 3) = 0 ∧ win1_3.index t (2 : Fin 3) = 0 := (by decide +kernel : ∀ t : Fin grid1.N, _)
theorem input3 (t : Fin cfg1.N) : iblk1 V c 3 t = V c main_v9 := by
  funext j
  show V c main_v9 (((cfg1.win 3).blk t).view.emb j) = V c main_v9 j
  refine congrArg (V c main_v9) ?_
  obtain ⟨e0, e1, e2⟩ := index3 t
  funext a; apply Fin.ext
  match a with
  | ⟨0, _⟩ => show win1_3.index t (0 : Fin 3) * 3 + 1 * (j 0).val = (j 0).val; omega
  | ⟨1, _⟩ => show win1_3.index t (1 : Fin 3) * 256 + 1 * (j 1).val = (j 1).val; omega
  | ⟨2, _⟩ => show win1_3.index t (2 : Fin 3) * 256 + 1 * (j 2).val = (j 2).val; omega

theorem index4 : ∀ t : Fin cfg1.N, win1_4.index t (0 : Fin 2) = 0 ∧ win1_4.index t (1 : Fin 2) = 0 := (by decide +kernel : ∀ t : Fin grid1.N, _)
theorem input4 (t : Fin cfg1.N) : iblk1 V c 4 t = V c main_v13 := by
  funext j
  show V c main_v13 (((cfg1.win 4).blk t).view.emb j) = V c main_v13 j
  refine congrArg (V c main_v13) ?_
  obtain ⟨e0, e1⟩ := index4 t
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega

theorem index5 : ∀ t : Fin cfg1.N, win1_5.index t (0 : Fin 3) = 0 ∧ win1_5.index t (1 : Fin 3) = 0 ∧ win1_5.index t (2 : Fin 3) = 0 := (by decide +kernel : ∀ t : Fin grid1.N, _)
theorem input5 (t : Fin cfg1.N) : iblk1 V c 5 t = V c main_v11 := by
  funext j
  show V c main_v11 (((cfg1.win 5).blk t).view.emb j) = V c main_v11 j
  refine congrArg (V c main_v11) ?_
  obtain ⟨e0, e1, e2⟩ := index5 t
  funext a; apply Fin.ext
  match a with
  | ⟨0, _⟩ => show win1_5.index t (0 : Fin 3) * 24 + 1 * (j 0).val = (j 0).val; omega
  | ⟨1, _⟩ => show win1_5.index t (1 : Fin 3) * 256 + 1 * (j 1).val = (j 1).val; omega
  | ⟨2, _⟩ => show win1_5.index t (2 : Fin 3) * 20 + 1 * (j 2).val = (j 2).val; omega

theorem index6 : ∀ t : Fin cfg1.N, win1_6.index t (0 : Fin 2) = 0 ∧ win1_6.index t (1 : Fin 2) = 0 := (by decide +kernel : ∀ t : Fin grid1.N, _)
theorem input6 (t : Fin cfg1.N) : iblk1 V c 6 t = V c main_v14 := by
  funext j
  show V c main_v14 (((cfg1.win 6).blk t).view.emb j) = V c main_v14 j
  refine congrArg (V c main_v14) ?_
  obtain ⟨e0, e1⟩ := index6 t
  funext a; apply Fin.ext
  match a with
  | ⟨0, _⟩ => show win1_6.index t (0 : Fin 2) * 1 + 1 * (j 0).val = (j 0).val; omega
  | ⟨1, _⟩ => show win1_6.index t (1 : Fin 2) * 20 + 1 * (j 1).val = (j 1).val; omega

/-! ## The blocks cut by batch element -/

theorem index0 : ∀ t : Fin cfg1.N, win1_0.index t (0 : Fin 3) = (grid1.coords t 0).val ∧ win1_0.index t (1 : Fin 3) = 0 ∧ win1_0.index t (2 : Fin 3) = 0 :=
  (by decide +kernel : ∀ t : Fin grid1.N, _)
theorem index9 : ∀ t : Fin cfg1.N, win1_9.index t (0 : Fin 3) = (grid1.coords t 0).val ∧ win1_9.index t (1 : Fin 3) = 0 ∧ win1_9.index t (2 : Fin 3) = 0 :=
  (by decide +kernel : ∀ t : Fin grid1.N, _)

/-- The batch element of a grid point. -/
abbrev batchAt (t : Fin cfg1.N) : Fin 4 := grid1.coords t 0

/-- The input block at a grid point is that batch element's rows. -/
theorem input0 (t : Fin cfg1.N) : rowsOf (iblk1 V c 0 t) = fun s ch => (V c main_arg0 : Vec Ideal S4x512x256 .f32) (ix3 (batchAt t) s ch) := by
  funext s ch
  show V c main_arg0 (((cfg1.win 0).blk t).view.emb (ix3 (0 : Fin 1) s ch)) = _
  refine congrArg (V c main_arg0) ?_
  obtain ⟨e0, e1, e2⟩ := index0 t
  funext a; apply Fin.ext
  match a with
  | ⟨0, _⟩ => show win1_0.index t (0 : Fin 3) * 1 + 1 * 0 = (grid1.coords t 0).val; omega
  | ⟨1, _⟩ => show win1_0.index t (1 : Fin 3) * 512 + 1 * s.val = s.val; omega
  | ⟨2, _⟩ => show win1_0.index t (2 : Fin 3) * 256 + 1 * ch.val = ch.val; omega

/-- The branch's scores as one array, of the arrays that its kernel reads. -/
noncomputable def result : Vec Ideal S4x512x20 .f32 := fun j =>
  branch 2 24 (fun s ch => (V c main_arg0 : Vec Ideal S4x512x256 .f32) (ix3 (j 0) s ch)) (stackOf (V c main_v8)) (vecOf (V c main_v12)) (stackOf (V c main_v9)) (vecOf (V c main_v13)) (stackOf (V c main_v11)) (vecOf (V c main_v14)) (j 1) (j 2)

/-- The result array after the kernel. -/
theorem final : (dat1 V c).arrAt 9 cfg1.N = result V c := by
  refine (dat1 V c).arrAt_eq_of_covers 9 (result V c) (by decide +kernel) fun t _ y => ?_
  show (dat1 V c).after 9 t y = result V c (((cfg1.win 9).blk t).view.emb y)
  have e : ((cfg1.win 9).blk t).view.emb y = ix3 (batchAt t) (y 1) (y 2) := by
    obtain ⟨e0, e1, e2⟩ := index9 t
    funext a; apply Fin.ext
    match a with
    | ⟨0, _⟩ =>
      have h0 : (y 0).val < 1 := (y 0).isLt
      show win1_9.index t (0 : Fin 3) * 1 + 1 * (y 0).val = (grid1.coords t 0).val; omega
    | ⟨1, _⟩ => show win1_9.index t (1 : Fin 3) * 512 + 1 * (y 1).val = (y 1).val; omega
    | ⟨2, _⟩ => show win1_9.index t (2 : Fin 3) * 20 + 1 * (y 2).val = (y 2).val; omega
  have ey : (y : S1x512x20.Idx) = ix3 (0 : Fin 1) (y 1) (y 2) := by
    funext a; apply Fin.ext
    match a with
    | ⟨0, _⟩ =>
      have h0 : (y 0).val < 1 := (y 0).isLt
      show (y 0).val = 0; omega
    | ⟨1, _⟩ => rfl
    | ⟨2, _⟩ => rfl
  rw [e, after1_9]
  unfold outsAt1
  refine (congrArg _ ey).trans ?_
  refine (Cert.Branch1.block c _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (grid1.coords t) (y 1) (y 2)).trans ?_
  rw [input0, input1, input2, input3, input4, input5, input6]
  rfl

end Cert.Array1

end
-- ==== Proof.Branch2.lean ====
module

public import proofs.«01_k».proof.Proof.Gen.KernelIdeal.Frame
public import proofs.«01_k».proof.Proof.Padded

@[expose] public section

/-! # Branch 2: what one grid point of the branch kernel leaves in its output block

The line buffers, the two convolutions, the classifier's running sum, and the block. -/

namespace Cert.Branch2

open Idealize Idealize.ShloMosaic Idealize.ShloMosaic.ValueIdx
open Cert.KernelIdeal Cert.KernelIdeal.Gen Cert.Spec Cert.Padded
open scoped BigOperators

variable (c : Dev nD)
  (arg1 : Memref sig .tc .vmem S1x512x256 .f32) (harg1 : arg1.IsWhole)
  (arg2 : Memref sig .tc .vmem S3x256x256 .f32) (harg2 : arg2.IsWhole)
  (arg3 : Memref sig .tc .vmem S1x256 .f32) (harg3 : arg3.IsWhole)
  (arg4 : Memref sig .tc .vmem S3x256x256 .f32) (harg4 : arg4.IsWhole)
  (arg5 : Memref sig .tc .vmem S1x256 .f32) (harg5 : arg5.IsWhole)
  (arg6 : Memref sig .tc .vmem S48x256x20 .f32) (harg6 : arg6.IsWhole)
  (arg7 : Memref sig .tc .vmem S1x20 .f32) (harg7 : arg7.IsWhole)
  (arg8 : Memref sig .tc .vmem S1x512x1 .f32) (harg8 : arg8.IsWhole)
  (arg9 : Memref sig .tc .vmem S1x512x1 .f32) (harg9 : arg9.IsWhole)
  (arg10 : Memref sig .tc .vmem S1x512x20 .f32) (harg10 : arg10.IsWhole)
  (arg11 : Memref sig .tc .vmem S560x256 .f32) (harg11 : arg11.IsWhole)
  (arg12 : Memref sig .tc .vmem S560x256 .f32) (harg12 : arg12.IsWhole)
  (arg13 : Memref sig .tc .vmem S512x256 .f32) (harg13 : arg13.IsWhole)
  (arg14 : Memref sig .tc .vmem S512x256 .f32) (harg14 : arg14.IsWhole)
  (arg15 : Memref sig .tc .vmem S512x256 .f32) (harg15 : arg15.IsWhole)
  (arg16 : Memref sig .tc .vmem S512x20 .f32) (harg16 : arg16.IsWhole)
  (x0 : Vec Ideal S1x512x256 .f32)
  (x1 : Vec Ideal S3x256x256 .f32)
  (x2 : Vec Ideal S1x256 .f32)
  (x3 : Vec Ideal S3x256x256 .f32)
  (x4 : Vec Ideal S1x256 .f32)
  (x5 : Vec Ideal S48x256x20 .f32)
  (x6 : Vec Ideal S1x20 .f32)
  (x7 : Vec Ideal S1x512x1 .f32)
  (x8 : Vec Ideal S1x512x1 .f32)

/-- The input rows, as they are stored in the first line buffer. -/
theorem line0_mid (t : Fin 512) (q : Fin 256) :
    k2_pay6 (F := Ideal) (View.readAt (Elt Ideal) arg1.view (Rect.unit ![0, 0, 0] S1x512x256.size inb_S1x512x256_S1x512x256_0_0_0).toLoadRect (harg1.unread x0)) (ix2 t q) = rowsOf x0 t q := by
  unfold k2_pay6
  refine (rows_cast _ _ _ t q).trans ?_
  exact read_stack arg1 harg1 x0 0 (by decide) _ t q

/-- The first line buffer before pooling: the input rows between rows of `-∞`. -/
theorem line0 (y : S560x256.Idx) :
    View.canon (kernelRun2_A.sl.HS0_3 (F := Ideal) c arg1 harg1 x0) y = padAt ⊥ (rowsOf x0) (y 0).val (y 1) :=
  canon_line _ _ _ _ _ _ ⊥ (fun _ => negInf) (fun _ => negInf) _ (fun t q => line0_mid arg1 harg1 x0 t q) _ y

/-- The pooled rows, as they are stored in the second line buffer. -/
theorem line1_mid (t : Fin 512) (q : Fin 256) :
    (k2_pay10 (kernelRun2_A.sl.r c arg1 harg1 arg11 x0) (kernelRun2_A.sl.v28 c arg1 harg1 arg11 x0) : FVec Ideal S512x256 .f32) (ix2 t q) = pool 4 (rowsOf x0) t q := by
  unfold k2_pay10 kernelRun2_A.sl.r k2_pay7
  refine (mid_cast _ _ t q).trans ?_
  exact (sup_step (fun j => padAt ⊥ (rowsOf x0) (24 - 4 + j + t.val) q) 8 (sup_step (fun j => padAt ⊥ (rowsOf x0) (24 - 4 + j + t.val) q) 7 (sup_step (fun j => padAt ⊥ (rowsOf x0) (24 - 4 + j + t.val) q) 6 (sup_step (fun j => padAt ⊥ (rowsOf x0) (24 - 4 + j + t.val) q) 5 (sup_step (fun j => padAt ⊥ (rowsOf x0) (24 - 4 + j + t.val) q) 4 (sup_step (fun j => padAt ⊥ (rowsOf x0) (24 - 4 + j + t.val) q) 3 (sup_step (fun j => padAt ⊥ (rowsOf x0) (24 - 4 + j + t.val) q) 2 (sup_step (fun j => padAt ⊥ (rowsOf x0) (24 - 4 + j + t.val) q) 1 (sup_first (fun j => padAt ⊥ (rowsOf x0) (24 - 4 + j + t.val) q) (read_line _ _ _ (line0 c arg1 harg1 x0) 20 _ t q)) (read_line _ _ _ (line0 c arg1 harg1 x0) 21 _ t q)) (read_line _ _ _ (line0 c arg1 harg1 x0) 22 _ t q)) (read_line _ _ _ (line0 c arg1 harg1 x0) 23 _ t q)) (read_line _ _ _ (line0 c arg1 harg1 x0) 24 _ t q)) (read_line _ _ _ (line0 c arg1 harg1 x0) 25 _ t q)) (read_line _ _ _ (line0 c arg1 harg1 x0) 26 _ t q)) (read_line _ _ _ (line0 c arg1 harg1 x0) 27 _ t q)) (read_line _ _ _ (line0 c arg1 harg1 x0) 28 _ t q))

/-- The second line buffer before the first convolution: the pooled rows between rows of zeros. -/
theorem line1 (y : S560x256.Idx) :
    View.canon (kernelRun2_A.sl.HS1_3 (F := Ideal) c arg1 harg1 arg11 x0) y = padAt 0 (pool 4 (rowsOf x0)) (y 0).val (y 1) :=
  canon_line _ _ _ _ _ _ 0 (fun _ => Ideal.ofBits_zero_f32) (fun _ => Ideal.ofBits_zero_f32) _ (fun t q => line1_mid c arg1 harg1 arg11 x0 t q) _ y

/-- Convolution 1, tap 0. -/
theorem conv1_tap0 (t : Fin 512) (q : Fin 256) :
    kernelRun2_A.sl.v60 (F := Ideal) c arg1 harg1 arg2 harg2 arg11 arg12 arg13 x0 x1 (ix2 t q) = tap (pool 4 (rowsOf x0)) (24 - 9 + t.val) (stackOf x1 0) q := by
  refine (congrFun (View.readCov_cons_unit_lit' _ _ _ _ _ (by decide) (by decide)) _).trans ?_
  exact dot_tap _ rfl none _ _ _ _ (pool 4 (rowsOf x0)) (stackOf x1 0) _ (fun t q => read_line _ _ _ (line1 c arg1 harg1 arg11 x0) 15 _ t q)
    (fun a b => read_stack _ _ _ 0 (by decide) _ a b) t q

/-- Convolution 1, tap 1. -/
theorem conv1_tap1 (t : Fin 512) (q : Fin 256) :
    kernelRun2_A.sl.v61 (F := Ideal) c arg1 harg1 arg2 harg2 arg11 arg12 arg14 x0 x1 (ix2 t q) = tap (pool 4 (rowsOf x0)) (24 + t.val) (stackOf x1 1) q := by
  refine (congrFun (View.readCov_cons_unit_lit' _ _ _ _ _ (by decide) (by decide)) _).trans ?_
  exact dot_tap _ rfl none _ _ _ _ (pool 4 (rowsOf x0)) (stackOf x1 1) _ (fun t q => read_line _ _ _ (line1 c arg1 harg1 arg11 x0) 24 _ t q)
    (fun a b => read_stack _ _ _ 1 (by decide) _ a b) t q

/-- Convolution 1, tap 2. -/
theorem conv1_tap2 (t : Fin 512) (q : Fin 256) :
    kernelRun2_A.sl.v63 (F := Ideal) c arg1 harg1 arg2 harg2 arg11 arg12 arg15 x0 x1 (ix2 t q) = tap (pool 4 (rowsOf x0)) (24 + 9 + t.val) (stackOf x1 2) q := by
  refine (congrFun (View.readCov_cons_unit_lit' _ _ _ _ _ (by decide) (by decide)) _).trans ?_
  exact dot_tap _ rfl none _ _ _ _ (pool 4 (rowsOf x0)) (stackOf x1 2) _ (fun t q => read_line _ _ _ (line1 c arg1 harg1 arg11 x0) 33 _ t q)
    (fun a b => read_stack _ _ _ 2 (by decide) _ a b) t q

/-- The rows of convolution 1, as they are stored in a line buffer. -/
theorem line2_mid (t : Fin 512) (q : Fin 256) :
    (k2_pay17 (kernelRun2_A.sl.r_2 c arg1 harg1 arg2 harg2 arg3 harg3 arg8 harg8 arg11 arg12 arg13 arg14 arg15 x0 x1 x2 x7) : FVec Ideal S512x256 .f32) (ix2 t q) = dilated 9 (stackOf x1) (vecOf x2) (pool 4 (rowsOf x0)) t q := by
  refine (conv_entry _ (kernelRun2_A.sl.v60 (F := Ideal) c arg1 harg1 arg2 harg2 arg11 arg12 arg13 x0 x1) (kernelRun2_A.sl.v61 (F := Ideal) c arg1 harg1 arg2 harg2 arg11 arg12 arg14 x0 x1) (kernelRun2_A.sl.v63 (F := Ideal) c arg1 harg1 arg2 harg2 arg11 arg12 arg15 x0 x1) _ _ _ _ t q).trans ?_
  exact sum4 (conv1_tap0 c arg1 harg1 arg2 harg2 arg11 arg12 arg13 x0 x1 t q) (conv1_tap1 c arg1 harg1 arg2 harg2 arg11 arg12 arg14 x0 x1 t q) (conv1_tap2 c arg1 harg1 arg2 harg2 arg11 arg12 arg15 x0 x1 t q)
    (read_row _ _ _ _ q)

/-- The line buffer after convolution 1: its rows between rows of zeros. -/
theorem line2 (y : S560x256.Idx) :
    View.canon (kernelRun2_A.sl.HS0_6 (F := Ideal) c arg1 harg1 arg2 harg2 arg3 harg3 arg8 harg8 arg11 arg12 arg13 arg14 arg15 x0 x1 x2 x7) y = padAt 0 (dilated 9 (stackOf x1) (vecOf x2) (pool 4 (rowsOf x0))) (y 0).val (y 1) :=
  canon_line _ _ _ _ _ _ 0 (fun _ => Ideal.ofBits_zero_f32) (fun _ => Ideal.ofBits_zero_f32) _ (fun t q => line2_mid c arg1 harg1 arg2 harg2 arg3 harg3 arg8 harg8 arg11 arg12 arg13 arg14 arg15 x0 x1 x2 x7 t q) _ y

/-- Convolution 2, tap 0. -/
theorem conv2_tap0 (t : Fin 512) (q : Fin 256) :
    kernelRun2_A.sl.v111 (F := Ideal) c arg1 harg1 arg2 harg2 arg3 harg3 arg4 harg4 arg8 harg8 arg11 arg12 arg13 arg14 arg15 x0 x1 x2 x3 x7 (ix2 t q) = tap (dilated 9 (stackOf x1) (vecOf x2) (pool 4 (rowsOf x0))) (24 - 17 + t.val) (stackOf x3 0) q := by
  refine (congrFun (View.readCov_cons_unit_lit' _ _ _ _ _ (by decide) (by decide)) _).trans ?_
  exact dot_tap _ rfl none _ _ _ _ (dilated 9 (stackOf x1) (vecOf x2) (pool 4 (rowsOf x0))) (stackOf x3 0) _ (fun t q => read_line _ _ _ (line2 c arg1 harg1 arg2 harg2 arg3 harg3 arg8 harg8 arg11 arg12 arg13 arg14 arg15 x0 x1 x2 x7) 7 _ t q)
    (fun a b => read_stack _ _ _ 0 (by decide) _ a b) t q

/-- Convolution 2, tap 1. -/
theorem conv2_tap1 (t : Fin 512) (q : Fin 256) :
    kernelRun2_A.sl.v112 (F := Ideal) c arg1 harg1 arg2 harg2 arg3 harg3 arg4 harg4 arg8 harg8 arg11 arg12 arg13 arg14 arg15 x0 x1 x2 x3 x7 (ix2 t q) = tap (dilated 9 (stackOf x1) (vecOf x2) (pool 4 (rowsOf x0))) (24 + t.val) (stackOf x3 1) q := by
  refine (congrFun (View.readCov_cons_unit_lit' _ _ _ _ _ (by decide) (by decide)) _).trans ?_
  exact dot_tap _ rfl none _ _ _ _ (dilated 9 (stackOf x1) (vecOf x2) (pool 4 (rowsOf x0))) (stackOf x3 1) _ (fun t q => read_line _ _ _ (line2 c arg1 harg1 arg2 harg2 arg3 harg3 arg8 harg8 arg11 arg12 arg13 arg14 arg15 x0 x1 x2 x7) 24 _ t q)
    (fun a b => read_stack _ _ _ 1 (by decide) _ a b) t q

/-- Convolution 2, tap 2. -/
theorem conv2_tap2 (t : Fin 512) (q : Fin 256) :
    kernelRun2_A.sl.v114 (F := Ideal) c arg1 harg1 arg2 harg2 arg3 harg3 arg4 harg4 arg8 harg8 arg11 arg12 arg13 arg14 arg15 x0 x1 x2 x3 x7 (ix2 t q) = tap (dilated 9 (stackOf x1) (vecOf x2) (pool 4 (rowsOf x0))) (24 + 17 + t.val) (stackOf x3 2) q := by
  refine (congrFun (View.readCov_cons_unit_lit' _ _ _ _ _ (by decide) (by decide)) _).trans ?_
  exact dot_tap _ rfl none _ _ _ _ (dilated 9 (stackOf x1) (vecOf x2) (pool 4 (rowsOf x0))) (stackOf x3 2) _ (fun t q => read_line _ _ _ (line2 c arg1 harg1 arg2 harg2 arg3 harg3 arg8 harg8 arg11 arg12 arg13 arg14 arg15 x0 x1 x2 x7) 41 _ t q)
    (fun a b => read_stack _ _ _ 2 (by decide) _ a b) t q

/-- The rows of convolution 2, as they are stored in a line buffer. -/
theorem line3_mid (t : Fin 512) (q : Fin 256) :
    (k2_pay23 (kernelRun2_A.sl.v111 c arg1 harg1 arg2 harg2 arg3 harg3 arg4 harg4 arg8 harg8 arg11 arg12 arg13 arg14 arg15 x0 x1 x2 x3 x7) (kernelRun2_A.sl.v112 c arg1 harg1 arg2 harg2 arg3 harg3 arg4 harg4 arg8 harg8 arg11 arg12 arg13 arg14 arg15 x0 x1 x2 x3 x7) (kernelRun2_A.sl.v114 c arg1 harg1 arg2 harg2 arg3 harg3 arg4 harg4 arg8 harg8 arg11 arg12 arg13 arg14 arg15 x0 x1 x2 x3 x7) (kernelRun2_A.sl.v112 c arg1 harg1 arg2 harg2 arg3 harg3 arg4 harg4 arg8 harg8 arg11 arg12 arg13 arg14 arg15 x0 x1 x2 x3 x7) (kernelRun2_A.sl.v114 c arg1 harg1 arg2 harg2 arg3 harg3 arg4 harg4 arg8 harg8 arg11 arg12 arg13 arg14 arg15 x0 x1 x2 x3 x7) (kernelRun2_A.sl.v111 c arg1 harg1 arg2 harg2 arg3 harg3 arg4 harg4 arg8 harg8 arg11 arg12 arg13 arg14 arg15 x0 x1 x2 x3 x7) (View.readAt (Elt Ideal) arg9.view (Rect.unit ![0, 0, 0] S1x512x1.size inb_S1x512x1_S1x512x1_0_0_0).toLoadRect (harg9.unread x8)) (View.readAt (Elt Ideal) arg5.view (Rect.unit ![0, 0] S1x256.size inb_S1x256_S1x256_0_0).toLoadRect (harg5.unread x4)) : FVec Ideal S512x256 .f32) (ix2 t q) = dilated 17 (stackOf x3) (vecOf x4) (dilated 9 (stackOf x1) (vecOf x2) (pool 4 (rowsOf x0))) t q := by
  refine (conv_entry _ (kernelRun2_A.sl.v111 (F := Ideal) c arg1 harg1 arg2 harg2 arg3 harg3 arg4 harg4 arg8 harg8 arg11 arg12 arg13 arg14 arg15 x0 x1 x2 x3 x7) (kernelRun2_A.sl.v112 (F := Ideal) c arg1 harg1 arg2 harg2 arg3 harg3 arg4 harg4 arg8 harg8 arg11 arg12 arg13 arg14 arg15 x0 x1 x2 x3 x7) (kernelRun2_A.sl.v114 (F := Ideal) c arg1 harg1 arg2 harg2 arg3 harg3 arg4 harg4 arg8 harg8 arg11 arg12 arg13 arg14 arg15 x0 x1 x2 x3 x7) _ _ _ _ t q).trans ?_
  exact sum4 (conv2_tap0 c arg1 harg1 arg2 harg2 arg3 harg3 arg4 harg4 arg8 harg8 arg11 arg12 arg13 arg14 arg15 x0 x1 x2 x3 x7 t q) (conv2_tap1 c arg1 harg1 arg2 harg2 arg3 harg3 arg4 harg4 arg8 harg8 arg11 arg12 arg13 arg14 arg15 x0 x1 x2 x3 x7 t q) (conv2_tap2 c arg1 harg1 arg2 harg2 arg3 harg3 arg4 harg4 arg8 harg8 arg11 arg12 arg13 arg14 arg15 x0 x1 x2 x3 x7 t q)
    (read_row _ _ _ _ q)

/-- The line buffer after convolution 2: its rows between rows of zeros. -/
theorem line3 (y : S560x256.Idx) :
    View.canon (kernelRun2_A.sl.HS1_6 (F := Ideal) c arg1 harg1 arg2 harg2 arg3 harg3 arg4 harg4 arg5 harg5 arg8 harg8 arg9 harg9 arg11 arg12 arg13 arg14 arg15 x0 x1 x2 x3 x4 x7 x8) y = padAt 0 (dilated 17 (stackOf x3) (vecOf x4) (dilated 9 (stackOf x1) (vecOf x2) (pool 4 (rowsOf x0)))) (y 0).val (y 1) :=
  canon_line _ _ _ _ _ _ 0 (fun _ => Ideal.ofBits_zero_f32) (fun _ => Ideal.ofBits_zero_f32) _ (fun t q => line3_mid c arg1 harg1 arg2 harg2 arg3 harg3 arg4 harg4 arg5 harg5 arg8 harg8 arg9 harg9 arg11 arg12 arg13 arg14 arg15 x0 x1 x2 x3 x4 x7 x8 t q) _ y

/-- The running sum after 1 taps. -/
theorem acc1 (t : Fin 512) (n : Fin 20) :
    kernelRun2_A.sl.v148 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 1, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_first _ rfl none _ _ _ _ (dilated 17 (stackOf x3) (vecOf x4) (dilated 9 (stackOf x1) (vecOf x2) (pool 4 (rowsOf x0)))) (stackAt x5) (25 - 48 / 2)
    (fun t q => read_line _ _ _ (line3 c arg1 harg1 arg2 harg2 arg3 harg3 arg4 harg4 arg5 harg5 arg8 harg8 arg9 harg9 arg11 arg12 arg13 arg14 arg15 x0 x1 x2 x3 x4 x7 x8) 1 _ t q) (fun a b => read_stackAt _ _ _ 0 _ a b) t n

/-- The running sum after 2 taps. -/
theorem acc2 (t : Fin 512) (n : Fin 20) :
    kernelRun2_A.sl.v157 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 2, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 1 (acc1 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 2 _ t q) (fun a b => read_stackAt _ _ _ 1 _ a b) t n

/-- The running sum after 3 taps. -/
theorem acc3 (t : Fin 512) (n : Fin 20) :
    kernelRun2_A.sl.v166 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 3, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 2 (acc2 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 3 _ t q) (fun a b => read_stackAt _ _ _ 2 _ a b) t n

/-- The running sum after 4 taps. -/
theorem acc4 (t : Fin 512) (n : Fin 20) :
    kernelRun2_A.sl.v175 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 4, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 3 (acc3 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 4 _ t q) (fun a b => read_stackAt _ _ _ 3 _ a b) t n

/-- The running sum after 5 taps. -/
theorem acc5 (t : Fin 512) (n : Fin 20) :
    kernelRun2_A.sl.v184 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 5, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 4 (acc4 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 5 _ t q) (fun a b => read_stackAt _ _ _ 4 _ a b) t n

/-- The running sum after 6 taps. -/
theorem acc6 (t : Fin 512) (n : Fin 20) :
    kernelRun2_A.sl.v193 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 6, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 5 (acc5 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 6 _ t q) (fun a b => read_stackAt _ _ _ 5 _ a b) t n

/-- The running sum after 7 taps. -/
theorem acc7 (t : Fin 512) (n : Fin 20) :
    kernelRun2_A.sl.v202 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 7, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 6 (acc6 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 7 _ t q) (fun a b => read_stackAt _ _ _ 6 _ a b) t n

/-- The running sum after 8 taps. -/
theorem acc8 (t : Fin 512) (n : Fin 20) :
    kernelRun2_A.sl.v211 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 8, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 7 (acc7 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 8 _ t q) (fun a b => read_stackAt _ _ _ 7 _ a b) t n

/-- The running sum after 9 taps. -/
theorem acc9 (t : Fin 512) (n : Fin 20) :
    kernelRun2_A.sl.v220 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 9, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 8 (acc8 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 9 _ t q) (fun a b => read_stackAt _ _ _ 8 _ a b) t n

/-- The running sum after 10 taps. -/
theorem acc10 (t : Fin 512) (n : Fin 20) :
    kernelRun2_A.sl.v229 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 10, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 9 (acc9 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 10 _ t q) (fun a b => read_stackAt _ _ _ 9 _ a b) t n

/-- The running sum after 11 taps. -/
theorem acc11 (t : Fin 512) (n : Fin 20) :
    kernelRun2_A.sl.v238 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 11, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 10 (acc10 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 11 _ t q) (fun a b => read_stackAt _ _ _ 10 _ a b) t n

/-- The running sum after 12 taps. -/
theorem acc12 (t : Fin 512) (n : Fin 20) :
    kernelRun2_A.sl.v247 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 12, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 11 (acc11 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 12 _ t q) (fun a b => read_stackAt _ _ _ 11 _ a b) t n

/-- The running sum after 13 taps. -/
theorem acc13 (t : Fin 512) (n : Fin 20) :
    kernelRun2_A.sl.v256 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 13, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 12 (acc12 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 13 _ t q) (fun a b => read_stackAt _ _ _ 12 _ a b) t n

/-- The running sum after 14 taps. -/
theorem acc14 (t : Fin 512) (n : Fin 20) :
    kernelRun2_A.sl.v265 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 14, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 13 (acc13 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 14 _ t q) (fun a b => read_stackAt _ _ _ 13 _ a b) t n

/-- The running sum after 15 taps. -/
theorem acc15 (t : Fin 512) (n : Fin 20) :
    kernelRun2_A.sl.v274 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 15, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 14 (acc14 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 15 _ t q) (fun a b => read_stackAt _ _ _ 14 _ a b) t n

/-- The running sum after 16 taps. -/
theorem acc16 (t : Fin 512) (n : Fin 20) :
    kernelRun2_A.sl.v283 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 16, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 15 (acc15 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 16 _ t q) (fun a b => read_stackAt _ _ _ 15 _ a b) t n

/-- The running sum after 17 taps. -/
theorem acc17 (t : Fin 512) (n : Fin 20) :
    kernelRun2_A.sl.v292 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 17, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 16 (acc16 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 17 _ t q) (fun a b => read_stackAt _ _ _ 16 _ a b) t n

/-- The running sum after 18 taps. -/
theorem acc18 (t : Fin 512) (n : Fin 20) :
    kernelRun2_A.sl.v301 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 18, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 17 (acc17 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 18 _ t q) (fun a b => read_stackAt _ _ _ 17 _ a b) t n

/-- The running sum after 19 taps. -/
theorem acc19 (t : Fin 512) (n : Fin 20) :
    kernelRun2_A.sl.v310 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 19, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 18 (acc18 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 19 _ t q) (fun a b => read_stackAt _ _ _ 18 _ a b) t n

/-- The running sum after 20 taps. -/
theorem acc20 (t : Fin 512) (n : Fin 20) :
    kernelRun2_A.sl.v319 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 20, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 19 (acc19 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 20 _ t q) (fun a b => read_stackAt _ _ _ 19 _ a b) t n

/-- The running sum after 21 taps. -/
theorem acc21 (t : Fin 512) (n : Fin 20) :
    kernelRun2_A.sl.v328 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 21, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 20 (acc20 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 21 _ t q) (fun a b => read_stackAt _ _ _ 20 _ a b) t n

/-- The running sum after 22 taps. -/
theorem acc22 (t : Fin 512) (n : Fin 20) :
    kernelRun2_A.sl.v337 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 22, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 21 (acc21 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 22 _ t q) (fun a b => read_stackAt _ _ _ 21 _ a b) t n

/-- The running sum after 23 taps. -/
theorem acc23 (t : Fin 512) (n : Fin 20) :
    kernelRun2_A.sl.v346 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 23, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 22 (acc22 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 23 _ t q) (fun a b => read_stackAt _ _ _ 22 _ a b) t n

/-- The running sum after 24 taps. -/
theorem acc24 (t : Fin 512) (n : Fin 20) :
    kernelRun2_A.sl.v355 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 24, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 23 (acc23 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 24 _ t q) (fun a b => read_stackAt _ _ _ 23 _ a b) t n

/-- The running sum after 25 taps. -/
theorem acc25 (t : Fin 512) (n : Fin 20) :
    kernelRun2_A.sl.v364 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 25, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 24 (acc24 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 25 _ t q) (fun a b => read_stackAt _ _ _ 24 _ a b) t n

/-- The running sum after 26 taps. -/
theorem acc26 (t : Fin 512) (n : Fin 20) :
    kernelRun2_A.sl.v373 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 26, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 25 (acc25 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 26 _ t q) (fun a b => read_stackAt _ _ _ 25 _ a b) t n

/-- The running sum after 27 taps. -/
theorem acc27 (t : Fin 512) (n : Fin 20) :
    kernelRun2_A.sl.v382 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 27, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 26 (acc26 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 27 _ t q) (fun a b => read_stackAt _ _ _ 26 _ a b) t n

/-- The running sum after 28 taps. -/
theorem acc28 (t : Fin 512) (n : Fin 20) :
    kernelRun2_A.sl.v391 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 28, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 27 (acc27 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 28 _ t q) (fun a b => read_stackAt _ _ _ 27 _ a b) t n

/-- The running sum after 29 taps. -/
theorem acc29 (t : Fin 512) (n : Fin 20) :
    kernelRun2_A.sl.v400 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 29, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 28 (acc28 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 29 _ t q) (fun a b => read_stackAt _ _ _ 28 _ a b) t n

/-- The running sum after 30 taps. -/
theorem acc30 (t : Fin 512) (n : Fin 20) :
    kernelRun2_A.sl.v409 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 30, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 29 (acc29 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 30 _ t q) (fun a b => read_stackAt _ _ _ 29 _ a b) t n

/-- The running sum after 31 taps. -/
theorem acc31 (t : Fin 512) (n : Fin 20) :
    kernelRun2_A.sl.v418 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 31, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 30 (acc30 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 31 _ t q) (fun a b => read_stackAt _ _ _ 30 _ a b) t n

/-- The running sum after 32 taps. -/
theorem acc32 (t : Fin 512) (n : Fin 20) :
    kernelRun2_A.sl.v427 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 32, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 31 (acc31 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 32 _ t q) (fun a b => read_stackAt _ _ _ 31 _ a b) t n

/-- The running sum after 33 taps. -/
theorem acc33 (t : Fin 512) (n : Fin 20) :
    kernelRun2_A.sl.v436 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 33, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 32 (acc32 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 33 _ t q) (fun a b => read_stackAt _ _ _ 32 _ a b) t n

/-- The running sum after 34 taps. -/
theorem acc34 (t : Fin 512) (n : Fin 20) :
    kernelRun2_A.sl.v445 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 34, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 33 (acc33 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 34 _ t q) (fun a b => read_stackAt _ _ _ 33 _ a b) t n

/-- The running sum after 35 taps. -/
theorem acc35 (t : Fin 512) (n : Fin 20) :
    kernelRun2_A.sl.v454 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 35, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 34 (acc34 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 35 _ t q) (fun a b => read_stackAt _ _ _ 34 _ a b) t n

/-- The running sum after 36 taps. -/
theorem acc36 (t : Fin 512) (n : Fin 20) :
    kernelRun2_A.sl.v463 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 36, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 35 (acc35 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 36 _ t q) (fun a b => read_stackAt _ _ _ 35 _ a b) t n

/-- The running sum after 37 taps. -/
theorem acc37 (t : Fin 512) (n : Fin 20) :
    kernelRun2_A.sl.v472 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 37, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 36 (acc36 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 37 _ t q) (fun a b => read_stackAt _ _ _ 36 _ a b) t n

/-- The running sum after 38 taps. -/
theorem acc38 (t : Fin 512) (n : Fin 20) :
    kernelRun2_A.sl.v481 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 38, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 37 (acc37 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 38 _ t q) (fun a b => read_stackAt _ _ _ 37 _ a b) t n

/-- The running sum after 39 taps. -/
theorem acc39 (t : Fin 512) (n : Fin 20) :
    kernelRun2_A.sl.v490 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 39, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 38 (acc38 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 39 _ t q) (fun a b => read_stackAt _ _ _ 38 _ a b) t n

/-- The running sum after 40 taps. -/
theorem acc40 (t : Fin 512) (n : Fin 20) :
    kernelRun2_A.sl.v499 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 40, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 39 (acc39 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 40 _ t q) (fun a b => read_stackAt _ _ _ 39 _ a b) t n

/-- The running sum after 41 taps. -/
theorem acc41 (t : Fin 512) (n : Fin 20) :
    kernelRun2_A.sl.v508 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 41, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 40 (acc40 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 41 _ t q) (fun a b => read_stackAt _ _ _ 40 _ a b) t n

/-- The running sum after 42 taps. -/
theorem acc42 (t : Fin 512) (n : Fin 20) :
    kernelRun2_A.sl.v517 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 42, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 41 (acc41 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 42 _ t q) (fun a b => read_stackAt _ _ _ 41 _ a b) t n

/-- The running sum after 43 taps. -/
theorem acc43 (t : Fin 512) (n : Fin 20) :
    kernelRun2_A.sl.v526 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 43, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 42 (acc42 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 43 _ t q) (fun a b => read_stackAt _ _ _ 42 _ a b) t n

/-- The running sum after 44 taps. -/
theorem acc44 (t : Fin 512) (n : Fin 20) :
    kernelRun2_A.sl.v535 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 44, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 43 (acc43 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 44 _ t q) (fun a b => read_stackAt _ _ _ 43 _ a b) t n

/-- The running sum after 45 taps. -/
theorem acc45 (t : Fin 512) (n : Fin 20) :
    kernelRun2_A.sl.v544 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 45, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 44 (acc44 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 45 _ t q) (fun a b => read_stackAt _ _ _ 44 _ a b) t n

/-- The running sum after 46 taps. -/
theorem acc46 (t : Fin 512) (n : Fin 20) :
    kernelRun2_A.sl.v553 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 46, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 45 (acc45 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 46 _ t q) (fun a b => read_stackAt _ _ _ 45 _ a b) t n

/-- The running sum after 47 taps. -/
theorem acc47 (t : Fin 512) (n : Fin 20) :
    kernelRun2_A.sl.v562 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 47, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 46 (acc46 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 47 _ t q) (fun a b => read_stackAt _ _ _ 46 _ a b) t n

/-- The running sum after 48 taps. -/
theorem acc48 (t : Fin 512) (n : Fin 20) :
    kernelRun2_A.sl.v571 (F := Ideal) c arg1 harg1 arg2 harg2 arg3 harg3 arg4 harg4 arg5 harg5 arg6 harg6 arg8 harg8 arg9 harg9 arg11 arg12 arg13 arg14 arg15 arg16 x0 x1 x2 x3 x4 x5 x7 x8 (ix2 t n) = ∑ j ∈ Finset.range 48, tap (dilated 17 (stackOf x3) (vecOf x4) (dilated 9 (stackOf x1) (vecOf x2) (pool 4 (rowsOf x0)))) (25 - 48 / 2 + j + t.val) (stackAt x5 j) n := by
  refine (congrFun (View.readCov_cons_unit_lit' _ _ _ _ _ (by decide) (by decide)) _).trans ?_
  exact acc_step _ rfl none _ _ _ _ _ (dilated 17 (stackOf x3) (vecOf x4) (dilated 9 (stackOf x1) (vecOf x2) (pool 4 (rowsOf x0)))) (stackAt x5) (25 - 48 / 2) 47 (acc47 c arg1 harg1 arg2 harg2 arg3 harg3 arg4 harg4 arg5 harg5 arg6 harg6 arg8 harg8 arg9 harg9 arg11 arg12 arg13 arg14 arg15 arg16 x0 x1 x2 x3 x4 x5 x7 x8)
    (fun t q => read_line _ _ _ (line3 c arg1 harg1 arg2 harg2 arg3 harg3 arg4 harg4 arg5 harg5 arg8 harg8 arg9 harg9 arg11 arg12 arg13 arg14 arg15 x0 x1 x2 x3 x4 x7 x8) 48 _ t q) (fun a b => read_stackAt _ _ _ 47 _ a b) t n

/-- The block one grid point leaves: the branch's scores of its batch row. -/
theorem block (i : grid2.Coords) (t : Fin 512) (n : Fin 20) :
    out2_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 (ix3 (0 : Fin 1) t n)
      = branch 4 48 (rowsOf x0) (stackOf x1) (vecOf x2) (stackOf x3) (vecOf x4) (stackOf x5) (vecOf x6) t n := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  refine (congrFun (View.canon_cons_unit_lit' _ _ _ (by decide)) _).trans ?_
  refine (classify_entry _ _ x5 _ _ _ (dilated 17 (stackOf x3) (vecOf x4) (dilated 9 (stackOf x1) (vecOf x2) (pool 4 (rowsOf x0)))) (fun t n => acc48 c arg1 harg1 arg2 harg2 arg3 harg3 arg4 harg4 arg5 harg5 arg6 harg6 arg8 harg8 arg9 harg9 arg11 arg12 arg13 arg14 arg15 arg16 x0 x1 x2 x3 x4 x5 x7 x8 t n) t n).trans ?_
  unfold branch
  exact congrArg (fun b => classify 48 (stackOf x5) b (dilated 17 (stackOf x3) (vecOf x4) (dilated 9 (stackOf x1) (vecOf x2) (pool 4 (rowsOf x0)))) t n) (funext fun q => read_row _ _ _ _ q)

end Cert.Branch2

end
-- ==== Proof.Array2.lean ====
module

public import proofs.«01_k».proof.Proof.Branch2
public import Idealize.ShloMosaic.Lib.Pipeline.ValueKit.Geometry

@[expose] public section

/-! # Branch 2: the array after its kernel

A weight or bias block is its whole array at every grid point; the input and the result are cut by batch element. -/

namespace Cert.Array2

open Idealize Idealize.ShloMosaic Idealize.ShloMosaic.ValueIdx Idealize.ShloMosaic.TcCoe Idealize.SL.Sem
open Cert.KernelIdeal Cert.KernelIdeal.Gen Cert.Spec Cert.Padded

variable (V : (c : Dev nD) → (b : Ref sig .tc) → Buf (Elt Ideal) ((c : Thread nD τ).loc b)) (c : Dev nD)

/-! ## The blocks that are whole arrays -/

theorem index1 : ∀ t : Fin cfg2.N, win2_1.index t (0 : Fin 3) = 0 ∧ win2_1.index t (1 : Fin 3) = 0 ∧ win2_1.index t (2 : Fin 3) = 0 := (by decide +kernel : ∀ t : Fin grid2.N, _)
theorem input1 (t : Fin cfg2.N) : iblk2 V c 1 t = V c main_v16 := by
  funext j
  show V c main_v16 (((cfg2.win 1).blk t).view.emb j) = V c main_v16 j
  refine congrArg (V c main_v16) ?_
  obtain ⟨e0, e1, e2⟩ := index1 t
  funext a; apply Fin.ext
  match a with
  | ⟨0, _⟩ => show win2_1.index t (0 : Fin 3) * 3 + 1 * (j 0).val = (j 0).val; omega
  | ⟨1, _⟩ => show win2_1.index t (1 : Fin 3) * 256 + 1 * (j 1).val = (j 1).val; omega
  | ⟨2, _⟩ => show win2_1.index t (2 : Fin 3) * 256 + 1 * (j 2).val = (j 2).val; omega

theorem index2 : ∀ t : Fin cfg2.N, win2_2.index t (0 : Fin 2) = 0 ∧ win2_2.index t (1 : Fin 2) = 0 := (by decide +kernel : ∀ t : Fin grid2.N, _)
theorem input2 (t : Fin cfg2.N) : iblk2 V c 2 t = V c main_v20 := by
  funext j
  show V c main_v20 (((cfg2.win 2).blk t).view.emb j) = V c main_v20 j
  refine congrArg (V c main_v20) ?_
  obtain ⟨e0, e1⟩ := index2 t
  funext a; apply Fin.ext
  match a with
  | ⟨0, _⟩ => show win2_2.index t (0 : Fin 2) * 1 + 1 * (j 0).val = (j 0).val; omega
  | ⟨1, _⟩ => show win2_2.index t (1 : Fin 2) * 256 + 1 * (j 1).val = (j 1).val; omega

theorem index3 : ∀ t : Fin cfg2.N, win2_3.index t (0 : Fin 3) = 0 ∧ win2_3.index t (1 : Fin 3) = 0 ∧ win2_3.index t (2 : Fin 3) = 0 := (by decide +kernel : ∀ t : Fin grid2.N, _)
theorem input3 (t : Fin cfg2.N) : iblk2 V c 3 t = V c main_v17 := by
  funext j
  show V c main_v17 (((cfg2.win 3).blk t).view.emb j) = V c main_v17 j
  refine congrArg (V c main_v17) ?_
  obtain ⟨e0, e1, e2⟩ := index3 t
  funext a; apply Fin.ext
  match a with
  | ⟨0, _⟩ => show win2_3.index t (0 : Fin 3) * 3 + 1 * (j 0).val = (j 0).val; omega
  | ⟨1, _⟩ => show win2_3.index t (1 : Fin 3) * 256 + 1 * (j 1).val = (j 1).val; omega
  | ⟨2, _⟩ => show win2_3.index t (2 : Fin 3) * 256 + 1 * (j 2).val = (j 2).val; omega

theorem index4 : ∀ t : Fin cfg2.N, win2_4.index t (0 : Fin 2) = 0 ∧ win2_4.index t (1 : Fin 2) = 0 := (by decide +kernel : ∀ t : Fin grid2.N, _)
theorem input4 (t : Fin cfg2.N) : iblk2 V c 4 t = V c main_v21 := by
  funext j
  show V c main_v21 (((cfg2.win 4).blk t).view.emb j) = V c main_v21 j
  refine congrArg (V c main_v21) ?_
  obtain ⟨e0, e1⟩ := index4 t
  funext a; apply Fin.ext
  match a with
  | ⟨0, _⟩ => show win2_4.index t (0 : Fin 2) * 1 + 1 * (j 0).val = (j 0).val; omega
  | ⟨1, _⟩ => show win2_4.index t (1 : Fin 2) * 256 + 1 * (j 1).val = (j 1).val; omega

theorem index5 : ∀ t : Fin cfg2.N, win2_5.index t (0 : Fin 3) = 0 ∧ win2_5.index t (1 : Fin 3) = 0 ∧ win2_5.index t (2 : Fin 3) = 0 := (by decide +kernel : ∀ t : Fin grid2.N, _)
theorem input5 (t : Fin cfg2.N) : iblk2 V c 5 t = V c main_v19 := by
  funext j
  show V c main_v19 (((cfg2.win 5).blk t).view.emb j) = V c main_v19 j
  refine congrArg (V c main_v19) ?_
  obtain ⟨e0, e1, e2⟩ := index5 t
  funext a; apply Fin.ext
  match a with
  | ⟨0, _⟩ => show win2_5.index t (0 : Fin 3) * 48 + 1 * (j 0).val = (j 0).val; omega
  | ⟨1, _⟩ => show win2_5.index t (1 : Fin 3) * 256 + 1 * (j 1).val = (j 1).val; omega
  | ⟨2, _⟩ => show win2_5.index t (2 : Fin 3) * 20 + 1 * (j 2).val = (j 2).val; omega

theorem index6 : ∀ t : Fin cfg2.N, win2_6.index t (0 : Fin 2) = 0 ∧ win2_6.index t (1 : Fin 2) = 0 := (by decide +kernel : ∀ t : Fin grid2.N, _)
theorem input6 (t : Fin cfg2.N) : iblk2 V c 6 t = V c main_v22 := by
  funext j
  show V c main_v22 (((cfg2.win 6).blk t).view.emb j) = V c main_v22 j
  refine congrArg (V c main_v22) ?_
  obtain ⟨e0, e1⟩ := index6 t
  funext a; apply Fin.ext
  match a with
  | ⟨0, _⟩ => show win2_6.index t (0 : Fin 2) * 1 + 1 * (j 0).val = (j 0).val; omega
  | ⟨1, _⟩ => show win2_6.index t (1 : Fin 2) * 20 + 1 * (j 1).val = (j 1).val; omega

/-! ## The blocks cut by batch element -/

theorem index0 : ∀ t : Fin cfg2.N, win2_0.index t (0 : Fin 3) = (grid2.coords t 0).val ∧ win2_0.index t (1 : Fin 3) = 0 ∧ win2_0.index t (2 : Fin 3) = 0 :=
  (by decide +kernel : ∀ t : Fin grid2.N, _)
theorem index9 : ∀ t : Fin cfg2.N, win2_9.index t (0 : Fin 3) = (grid2.coords t 0).val ∧ win2_9.index t (1 : Fin 3) = 0 ∧ win2_9.index t (2 : Fin 3) = 0 :=
  (by decide +kernel : ∀ t : Fin grid2.N, _)

/-- The batch element of a grid point. -/
abbrev batchAt (t : Fin cfg2.N) : Fin 4 := grid2.coords t 0

/-- The input block at a grid point is that batch element's rows. -/
theorem input0 (t : Fin cfg2.N) : rowsOf (iblk2 V c 0 t) = fun s ch => (V c main_arg0 : Vec Ideal S4x512x256 .f32) (ix3 (batchAt t) s ch) := by
  funext s ch
  show V c main_arg0 (((cfg2.win 0).blk t).view.emb (ix3 (0 : Fin 1) s ch)) = _
  refine congrArg (V c main_arg0) ?_
  obtain ⟨e0, e1, e2⟩ := index0 t
  funext a; apply Fin.ext
  match a with
  | ⟨0, _⟩ => show win2_0.index t (0 : Fin 3) * 1 + 1 * 0 = (grid2.coords t 0).val; omega
  | ⟨1, _⟩ => show win2_0.index t (1 : Fin 3) * 512 + 1 * s.val = s.val; omega
  | ⟨2, _⟩ => show win2_0.index t (2 : Fin 3) * 256 + 1 * ch.val = ch.val; omega

/-- The branch's scores as one array, of the arrays that its kernel reads. -/
noncomputable def result : Vec Ideal S4x512x20 .f32 := fun j =>
  branch 4 48 (fun s ch => (V c main_arg0 : Vec Ideal S4x512x256 .f32) (ix3 (j 0) s ch)) (stackOf (V c main_v16)) (vecOf (V c main_v20)) (stackOf (V c main_v17)) (vecOf (V c main_v21)) (stackOf (V c main_v19)) (vecOf (V c main_v22)) (j 1) (j 2)

/-- The result array after the kernel. -/
theorem final : (dat2 V c).arrAt 9 cfg2.N = result V c := by
  refine (dat2 V c).arrAt_eq_of_covers 9 (result V c) (by decide +kernel) fun t _ y => ?_
  show (dat2 V c).after 9 t y = result V c (((cfg2.win 9).blk t).view.emb y)
  have e : ((cfg2.win 9).blk t).view.emb y = ix3 (batchAt t) (y 1) (y 2) := by
    obtain ⟨e0, e1, e2⟩ := index9 t
    funext a; apply Fin.ext
    match a with
    | ⟨0, _⟩ =>
      have h0 : (y 0).val < 1 := (y 0).isLt
      show win2_9.index t (0 : Fin 3) * 1 + 1 * (y 0).val = (grid2.coords t 0).val; omega
    | ⟨1, _⟩ => show win2_9.index t (1 : Fin 3) * 512 + 1 * (y 1).val = (y 1).val; omega
    | ⟨2, _⟩ => show win2_9.index t (2 : Fin 3) * 20 + 1 * (y 2).val = (y 2).val; omega
  have ey : (y : S1x512x20.Idx) = ix3 (0 : Fin 1) (y 1) (y 2) := by
    funext a; apply Fin.ext
    match a with
    | ⟨0, _⟩ =>
      have h0 : (y 0).val < 1 := (y 0).isLt
      show (y 0).val = 0; omega
    | ⟨1, _⟩ => rfl
    | ⟨2, _⟩ => rfl
  rw [e, after2_9]
  unfold outsAt2
  refine (congrArg _ ey).trans ?_
  refine (Cert.Branch2.block c _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (grid2.coords t) (y 1) (y 2)).trans ?_
  rw [input0, input1, input2, input3, input4, input5, input6]
  rfl

end Cert.Array2

end
-- ==== Proof.Ranking.lean ====
/- Ranking by a count and ranking by a stable sort are the same: of the scores at `n` positions, the position that a
   stable descending sort puts at place `k` is the one position with exactly `k` positions before it. -/
module

public import Idealize.ShloMosaic.Lib.SortPrefix
public import Mathlib.Data.EReal.Basic

@[expose] public section

noncomputable section

namespace Cert.Ranking

open Idealize.ShloMosaic

variable {n : ℕ}

/-- Position `s` is ranked before position `t`: its score is larger, or equal with the smaller position. -/
def before (a : Fin n → EReal) (s t : Fin n) : Bool :=
  decide (a t < a s) || (decide (a s = a t) && decide (s < t))

/-- How many positions are ranked before `t`. -/
def rank (a : Fin n → EReal) (t : Fin n) : ℕ := (Finset.univ.filter fun s => before a s t = true).card

/-- The position at place `k` of the ranking. -/
def order (a : Fin n → EReal) (k : Fin n) : Fin n := sortedFrom (before a) k

/-- The ranking is a strict total order on the positions. -/
theorem before_total (a : Fin n → EReal) : StrictTotalBefore (before a) :=
  StrictTotalBefore.of_key_then_position (fun x y : EReal => decide (y < x)) a (by simp)
    (fun x y z h h' => by simp only [decide_eq_true_eq] at *; exact h'.trans h)
    (fun x y => by
      simp only [decide_eq_true_eq]
      rcases lt_trichotomy x y with h | h | h
      · exact Or.inr (Or.inr h)
      · exact Or.inr (Or.inl h)
      · exact Or.inl h)

/-- Of two places the earlier one holds the position ranked before. -/
theorem before_order (a : Fin n → EReal) (i j : Fin n) : before a (order a i) (order a j) = true ↔ i < j := by
  have hB := before_total a
  have key : ∀ i j : Fin n, i < j → before a (order a j) (order a i) = false := fun i j h =>
    sortedFrom_noInversion (before a) (before a) hB.asymm (fun _ _ h => h) hB.negTrans i j h
  have fwd : ∀ i j : Fin n, i < j → before a (order a i) (order a j) = true := fun i j h => by
    rcases hB.total (order a i) (order a j)
      (fun e => absurd (sortedFrom_injective (before a) e) (ne_of_lt h)) with h' | h'
    · exact h'
    · rw [key i j h] at h'; exact absurd h' (by decide)
  refine ⟨fun h => ?_, fwd i j⟩
  by_contra hn
  rcases lt_or_eq_of_le (not_lt.mp hn) with hlt | heq
  · rw [key j i hlt] at h; exact absurd h (by decide)
  · subst heq; rw [hB.irrefl] at h; exact absurd h (by decide)

/-- The position at place `k` has exactly `k` positions before it. -/
theorem rank_order (a : Fin n → EReal) (k : Fin n) : rank a (order a k) = k.val := by
  have e : (Finset.univ.filter fun s => before a s (order a k) = true)
      = (Finset.univ.filter fun i : Fin n => i < k).image (order a) := by
    ext s
    obtain ⟨i, rfl⟩ := sortedFrom_surjective (before a) s
    simp only [Finset.mem_filter, Finset.mem_univ, true_and, Finset.mem_image]
    constructor
    · intro h; exact ⟨i, (before_order a i k).mp h, rfl⟩
    · rintro ⟨j, hj, e⟩
      have := sortedFrom_injective (before a) e
      subst this
      exact (before_order a j k).mpr hj
  unfold rank
  have inj : Function.Injective (order a) := sortedFrom_injective (before a)
  rw [e, Finset.card_image_of_injective _ inj]
  rw [show (Finset.univ.filter fun i : Fin n => i < k) = Finset.Iio k from by ext; simp]
  simp

/-- The position with `k` positions before it is the one at place `k`. -/
theorem rank_eq_iff (a : Fin n → EReal) (t k : Fin n) : rank a t = k.val ↔ t = order a k := by
  constructor
  · intro h
    obtain ⟨i, rfl⟩ := sortedFrom_surjective (before a) t
    have := rank_order a i
    unfold order at this ⊢
    rw [this] at h
    rw [Fin.ext h]
  · rintro rfl; exact rank_order a k

theorem rank_lt (a : Fin n → EReal) (t : Fin n) : rank a t < n := by
  obtain ⟨i, rfl⟩ := sortedFrom_surjective (before a) t
  have := rank_order a i
  unfold order at this
  rw [this]; exact i.isLt

/-- A stable sort that only compares the scores leaves equal scores in their order, so it is the ranking. -/
theorem stableSort_eq (a : Fin n → EReal) (R : Fin n → Fin n → Bool) (hR : ∀ s t, R s t = decide (a t < a s))
    (l : List (Fin n)) (hl : l.Pairwise (· < ·)) : stableSort R l = stableSort (before a) l := by
  induction l with
  | nil => rfl
  | cons b l ih =>
    rw [List.pairwise_cons] at hl
    unfold stableSort
    rw [ih hl.2]
    refine insertBefore_congr _ _ _ _ fun c hc => ?_
    have hlt : b < c := hl.1 c ((perm_stableSort (before a) l).mem_iff.mp hc)
    rw [hR]
    unfold before
    simp [not_lt.mpr hlt.le]

theorem sortedFrom_eq_order (a : Fin n → EReal) (R : Fin n → Fin n → Bool) (hR : ∀ s t, R s t = decide (a t < a s))
    (k : Fin n) : sortedFrom R k = order a k := by
  have e : sortPositions n R = sortPositions n (before a) :=
    stableSort_eq a R hR _ (List.pairwise_lt_finRange n)
  unfold order sortedFrom
  simp only [e, List.get_eq_getElem, Fin.val_cast]

/-- The position in the order that row `r` of a result shows: first the last `128` positions, then the first `128`. -/
def target (r : Fin 256) : Fin 512 := if h : r.val < 128 then ⟨r.val + 384, by omega⟩ else ⟨r.val - 128, by omega⟩

/-- The row of the input that row `r` of a result shows. -/
noncomputable def pick (a : Fin 512 → EReal) (r : Fin 256) : Fin 512 := order a (target r)

/-- An end of a segment relative to its time: `1 - k 2^i` or `k 2^i`. -/
def edge (k : ℤ) (i : Fin 3) (b : Fin 2) : BitVec 32 := BitVec.ofInt 32 (if b = 0 then 1 - k * 2 ^ i.val else k * 2 ^ i.val)

end Cert.Ranking

end
-- ==== Proof.Rank.lean ====
module

public import proofs.«01_k».proof.Proof.Gen.KernelIdeal.Frame
public import Idealize.ShloMosaic.Lib.MatmulPlain
public import Idealize.ShloMosaic.Lib.ValueLayout
public import Idealize.ShloMosaic.Lib.KernelVsHost
public import Idealize.ShloMosaic.Lib.Pipeline.ValueKit.Acc
public import proofs.«01_k».proof.Proof.Ranking

@[expose] public section

/-! # The ranking kernel: what one grid point leaves in its three output blocks

The rank of each row as a sum of zeros and ones, the one-hot matrix of the wanted ranks, and its products. -/

namespace Cert.Rank

open Idealize Idealize.ShloMosaic Idealize.ShloMosaic.ValueIdx
open Cert.KernelIdeal Cert.KernelIdeal.Gen Cert.Ranking
open scoped BigOperators

/-- A sum of truth values read as numbers is the number of true ones. -/
theorem sum_bits {n : ℕ} (b : Fin n → Bool) :
    (∑ s, (((BitVec.ofBool (b s)).setWidth 32).toInt : ℝ) : EReal) = (((Finset.univ.filter fun s => b s = true).card : ℝ) : EReal) := by
  have e : ∀ s, ((((BitVec.ofBool (b s)).setWidth 32).toInt : ℝ) : EReal) = (((if b s = true then 1 else 0 : ℝ)) : EReal) := by
    intro s
    rw [toInt_setWidth_bit]
    cases b s <;> simp
  rw [Finset.sum_congr rfl fun s _ => e s]
  have := (map_sum (⟨⟨Real.toEReal, EReal.coe_zero⟩, EReal.coe_add⟩ : ℝ →+ EReal)
    (fun s => if b s = true then (1 : ℝ) else 0) Finset.univ).symm
  refine Eq.trans this ?_
  show (((∑ s, if b s = true then (1 : ℝ) else 0) : ℝ) : EReal) = _
  rw [Finset.sum_boole]

/-- Comparing two small numbers as signed words compares them. -/
theorem slt_small (s t : ℕ) (hs : s < 512) (ht : t < 512) : (BitVec.ofNat 32 s).slt (BitVec.ofNat 32 t) = decide (s < t) := by
  have hS : (BitVec.ofNat 32 s).toInt = (s : ℤ) := by
    rw [BitVec.toInt_ofNat']; norm_num; exact Int.bmod_eq_of_le (by omega) (by omega)
  have hT : (BitVec.ofNat 32 t).toInt = (t : ℤ) := by
    rw [BitVec.toInt_ofNat']; norm_num; exact Int.bmod_eq_of_le (by omega) (by omega)
  rw [BitVec.slt_eq_decide, hS, hT]
  simp

/-- The one column of a block of scores sums. -/
abbrev colOf (x : Vec Ideal S1x1x512x1 .f32) (t : Fin 512) : EReal := x (ix4 (0 : Fin 1) (0 : Fin 1) t (0 : Fin 1))

theorem col_cast (x : Vec Ideal S1x1x512x1 .f32) (h : S1x1x512x1.ShapeCasts S512x1) (t : Fin 512) (u : Fin 1) :
    shapeCast S512x1 x h (ix2 t u) = colOf x t :=
  shapeCast_apply x h _ _ (by
    have hu : u.val = 0 := by omega
    rw [Shape.rowMajor_val_four, Shape.rowMajor_val_two]
    show ((0 * 1 + 0) * 512 + t.val) * 1 + 0 = t.val * 1 + u.val
    omega)

/-- The wanted rank of row `r`, as a number. -/
theorem target_word (r : Fin 256) :
    (Scalar.select (IntOp.cmpi .slt (BitVec.ofNat 32 (0 * 256 + r.val)) 128#32)
      (IntOp.addi (BitVec.ofNat 32 (0 * 256 + r.val)) 384#32) (IntOp.subi (BitVec.ofNat 32 (0 * 256 + r.val)) 128#32)).toInt
      = ((target r).val : ℤ) := by
  revert r; decide +kernel

theorem rank_cell (x : Vec Ideal S1x1x512x1 .f32) (s t : Fin 512)
    (h1 : S512x1.Broadcasts S512x512) (h2 : S1x512.Broadcasts S512x512) (hc : S1x1x512x1.ShapeCasts S512x1)
    (ht : S512x1.Transposes [1, 0] S1x512) (j : S512x512.Idx) (hj0 : (j 0).val = s.val) (hj1 : (j 1).val = t.val) :
    ori (cmpf (F := Ideal) (φ := .f32) .ogt (broadcastTo S512x512 (shapeCast S512x1 x hc) h1) (broadcastTo S512x512 (transpose S1x512 [1, 0] (shapeCast S512x1 x hc) ht) h2))
      (andi (cmpf (F := Ideal) (φ := .f32) .oeq (broadcastTo S512x512 (shapeCast S512x1 x hc) h1) (broadcastTo S512x512 (transpose S1x512 [1, 0] (shapeCast S512x1 x hc) ht) h2))
        (cmpi .slt (iota .tc S512x512 32 [0] iota_S512x512_d0_w32) (iota .tc S512x512 32 [1] iota_S512x512_d1_w32))) j
      = BitVec.ofBool (before (colOf x) s t) := by
  obtain rfl : j = ix2 s t := by
    funext a; apply Fin.ext
    match a with
    | ⟨0, _⟩ => exact hj0
    | ⟨1, _⟩ => exact hj1
  have e1 : broadcastTo S512x512 (shapeCast S512x1 x hc) h1 (ix2 s t) = colOf x s :=
    (broadcastTo_apply _ h1 _ (ix2 s (0 : Fin 1)) (by intro a; fin_cases a <;> rfl)).trans (col_cast x hc s 0)
  have e2 : broadcastTo S512x512 (transpose S1x512 [1, 0] (shapeCast S512x1 x hc) ht) h2 (ix2 s t) = colOf x t := by
    rw [broadcastTo_1b_ab_apply]
    exact (transpose_apply _ _ ht _ (ix2 t (0 : Fin 1)) (by intro b; fin_cases b <;> rfl)).trans (col_cast x hc t 0)
  show (Ideal.cmp .ogt _ _) ||| ((Ideal.cmp .oeq _ _) &&& (BitVec.ofBool ((BitVec.ofNat 32 (0 * 512 + s.val)).slt (BitVec.ofNat 32 (0 * 512 + t.val))))) = _
  rw [e1, e2]
  have hz : ∀ n : ℕ, 0 * 512 + n = n := fun n => by omega
  rw [hz, hz, slt_small _ _ s.isLt t.isLt]
  unfold before
  show BitVec.ofBool (decide _) ||| (BitVec.ofBool (decide _) &&& BitVec.ofBool _) = _
  have hd : decide (s.val < t.val) = decide (s < t) := rfl
  rw [hd]
  generalize decide (s < t) = b1
  generalize decide (colOf x t < colOf x s) = b2
  generalize decide (colOf x s = colOf x t) = b3
  revert b1 b2 b3; decide

/-- The sum of a square's columns, spread over the rows of a matrix. -/
theorem col_sum (V : FVec Ideal S512x512 .f32) (h : S512x512.Reduces [(0 : Fin 2)] S512) (hf : FKind.Formats .f32)
    (ha : (0x00000000#32 : BitVec 32) = FKind.add.neutral .f32 hf) (hc : S512.ShapeCasts S1x512) (hb : S1x512.Broadcasts S256x512) (r : Fin 256) (t : Fin 512) :
    broadcastTo S256x512 (shapeCast S1x512 (multiReduction .add [(0 : Fin 2)] S512 V 0x00000000#32 h hf ha) hc) hb (ix2 r t)
      = ∑ s : Fin 512, V (h.lift (ix1 t) s) := by
  rw [broadcastTo_1b_ab_apply, shapeCast_a_1a_apply]
  exact Ideal.multiReduction_add_single V _ h hf ha (ix1 t)

/-- The one-hot matrix: row `r` has its one at the picked row. -/
theorem onehot (x : Vec Ideal S1x1x512x1 .f32) (r : Fin 256) (t : Fin 512) :
    k3_pay4 (F := Ideal) x (ix2 r t) = if pick (colOf x) r = t then 1 else 0 := by
  unfold k3_pay4
  dsimp only
  have hA : broadcastTo S256x512 (sitofp (F := Ideal) .f32 (select (cmpi .slt (iota .tc S256x1 32 [0] iota_S256x1_d0_w32) (broadcast S256x1 128#32))
      (addi (iota .tc S256x1 32 [0] iota_S256x1_d0_w32) (broadcast S256x1 384#32)) (subi (iota .tc S256x1 32 [0] iota_S256x1_d0_w32) (broadcast S256x1 128#32))))
      broadcasts_S256x1_S256x512 (ix2 r t) = (((target r).val : ℝ) : EReal) := by
    refine (broadcastTo_apply _ _ _ (ix2 r (0 : Fin 1)) (by intro a; fin_cases a <;> rfl)).trans ?_
    have := target_word r
    have h2 := congrArg (fun z : ℤ => ((z : ℝ) : EReal)) this
    refine Eq.trans ?_ (h2.trans (by simp))
    rfl
  have hB : broadcastTo S256x512 (shapeCast S1x512 (multiReduction .add [0] S512
        (sitofp (F := Ideal) .f32 (extui 32 (ori (cmpf (F := Ideal) (φ := .f32) .ogt (broadcastTo S512x512 (shapeCast S512x1 x shapeCasts_S1x1x512x1_S512x1) broadcasts_S512x1_S512x512)
            (broadcastTo S512x512 (transpose S1x512 [1, 0] (shapeCast S512x1 x shapeCasts_S1x1x512x1_S512x1) transposes_S512x1_p1_0_S1x512) broadcasts_S1x512_S512x512))
          (andi (cmpf (F := Ideal) (φ := .f32) .oeq (broadcastTo S512x512 (shapeCast S512x1 x shapeCasts_S1x1x512x1_S512x1) broadcasts_S512x1_S512x512)
            (broadcastTo S512x512 (transpose S1x512 [1, 0] (shapeCast S512x1 x shapeCasts_S1x1x512x1_S512x1) transposes_S512x1_p1_0_S1x512) broadcasts_S1x512_S512x512))
            (cmpi .slt (iota .tc S512x512 32 [0] iota_S512x512_d0_w32) (iota .tc S512x512 32 [1] iota_S512x512_d1_w32)))) natLt_1_32))
        0x00000000#32 reduces_S512x512_S512 (.inl rfl) rfl) shapeCasts_S512_S1x512) broadcasts_S1x512_S256x512 (ix2 r t)
      = ((rank (colOf x) t : ℝ) : EReal) := by
    refine (col_sum _ reduces_S512x512_S512 _ _ _ _ r t).trans ?_
    refine (Finset.sum_congr rfl fun s _ => ?_).trans (sum_bits fun s => before (colOf x) s t)
    have hc := rank_cell x s t broadcasts_S512x1_S512x512 broadcasts_S1x512_S512x512 shapeCasts_S1x1x512x1_S512x1
      transposes_S512x1_p1_0_S1x512 (reduces_S512x512_S512.lift (ix1 t) s) rfl rfl
    exact congrArg (fun b : BitVec 1 => (((b.setWidth 32).toInt : ℝ) : EReal)) hc
  show ((((Ideal.cmp .oeq (broadcastTo S256x512 _ _ (ix2 r t)) (broadcastTo S256x512 _ _ (ix2 r t))).setWidth 32).toInt : ℝ) : EReal) = _
  rw [hA, hB]
  show ((((BitVec.ofBool (decide _)).setWidth 32).toInt : ℝ) : EReal) = _
  rw [toInt_setWidth_bit]
  by_cases h : pick (colOf x) r = t
  · have : rank (colOf x) t = (target r).val := (rank_eq_iff _ _ _).2 h.symm
    rw [if_pos h, this]
    simp
  · have : rank (colOf x) t ≠ (target r).val := fun e => h ((rank_eq_iff _ _ _).1 e).symm
    have h2 : ¬ ((((target r).val : ℝ) : EReal) = ((rank (colOf x) t : ℝ) : EReal)) := by
      intro e
      apply this
      have := EReal.coe_eq_coe_iff.1 e
      exact_mod_cast this.symm
    rw [if_neg h, decide_eq_false h2]
    simp

/-- A product with the one-hot matrix picks a row. -/
theorem pick_row {n : ℕ} (d : DotDims S256x512 ⟨2, ![512, n]⟩ ⟨2, ![256, n]⟩) (hd : d = DotDims.plain 256 512 n)
    (x : Vec Ideal S1x1x512x1 .f32) (v : FVec Ideal ⟨2, ![512, n]⟩ .f32) (r : Fin 256) (q : Fin n) :
    FloatOps.matmul (F := Ideal) (φ₁ := .f32) (φ₂ := .f32) d (some .fp32) (k3_pay4 (F := Ideal) x) v (constant (⟨2, ![256, n]⟩ : Shape) .f32 0x00000000#32) (ix2 r q)
      = v (ix2 (pick (colOf x) r) q) := by
  subst hd
  rw [Ideal.matmul_plain_apply, constant_apply, Ideal.ofBits_zero_f32, zero_add]
  rw [Finset.sum_eq_single (pick (colOf x) r)]
  · rw [onehot, if_pos rfl, one_mul]
  · intro t _ ht
    rw [onehot, if_neg ht.symm, zero_mul]
  · intro h; exact absurd (Finset.mem_univ _) h

/-- The sum of two words as the words read as numbers, added, and truncated back. -/
theorem trunc_word (t : Fin 512) (e : BitVec 32) (he : -1000 ≤ e.toInt ∧ e.toInt ≤ 1000) :
    Ideal.fptosi 32 (((((BitVec.ofNat 32 t.val).toInt : ℝ) : EReal)) + ((e.toInt : ℝ) : EReal)) = BitVec.ofNat 32 t.val + e := by
  have hT : (BitVec.ofNat 32 t.val).toInt = (t.val : ℤ) := by
    rw [BitVec.toInt_ofNat']; norm_num; exact Int.bmod_eq_of_le (by omega) (by omega)
  rw [← EReal.coe_add, ← Int.cast_add]
  unfold Ideal.fptosi
  have : Ideal.toIntClamped (-(2 ^ (32 - 1) : Nat)) ((2 ^ (32 - 1) : Nat) - 1) ((((BitVec.ofNat 32 t.val).toInt + e.toInt : ℤ) : ℝ) : EReal)
      = (BitVec.ofNat 32 t.val).toInt + e.toInt := by
    show max _ (min _ (if 0 ≤ _ then Int.floor _ else Int.ceil _)) = _
    rw [Int.floor_intCast, Int.ceil_intCast, ite_self, hT]
    have := t.isLt
    norm_num
    omega
  rw [this, BitVec.ofInt_add, BitVec.ofInt_toInt, BitVec.ofInt_toInt]

/-- A matrix recast with two leading axes of size one. -/
theorem lead_cast {α : Type} {m n : ℕ} (v : (⟨2, ![m, n]⟩ : Shape).Idx → α) (h : (⟨2, ![m, n]⟩ : Shape).ShapeCasts ⟨4, ![1, 1, m, n]⟩)
    (r : Fin m) (q : Fin n) : shapeCast ⟨4, ![1, 1, m, n]⟩ v h (ix4 (0 : Fin 1) (0 : Fin 1) r q) = v (ix2 r q) :=
  shapeCast_apply v h _ _ (by
    rw [Shape.rowMajor_val_four, Shape.rowMajor_val_two]
    show r.val * n + q.val = ((0 * 1 + 0) * m + r.val) * n + q.val
    simp)

/-- A block with two leading axes of size one recast to a matrix. -/
theorem drop_cast {α : Type} {m n : ℕ} (v : (⟨4, ![1, 1, m, n]⟩ : Shape).Idx → α) (h : (⟨4, ![1, 1, m, n]⟩ : Shape).ShapeCasts ⟨2, ![m, n]⟩)
    (r : Fin m) (q : Fin n) : shapeCast ⟨2, ![m, n]⟩ v h (ix2 r q) = v (ix4 (0 : Fin 1) (0 : Fin 1) r q) :=
  shapeCast_apply v h _ _ (by
    rw [Shape.rowMajor_val_four, Shape.rowMajor_val_two]
    show ((0 * 1 + 0) * m + r.val) * n + q.val = r.val * n + q.val
    simp)

/-- The result block of scores: the picked rows. -/
theorem block_scores (i : grid3.Coords) (x : Vec Ideal S1x1x512x1 .f32) (y : Vec Ideal S1x1x512x20 .f32) (r : Fin 256) (n : Fin 20) :
    out3_4 (F := Ideal) i x y (ix4 (0 : Fin 1) (0 : Fin 1) r n) = y (ix4 (0 : Fin 1) (0 : Fin 1) (pick (colOf x) r) n) := by
  unfold out3_4
  rw [View.ld_unit_lit' _ _ (by decide), View.ld_unit_lit' _ _ (by decide)]
  refine (congrFun (View.canon_cons_unit_lit' _ _ _ (by decide)) _).trans ?_
  unfold k3_pay5
  refine (lead_cast _ _ r n).trans ?_
  refine (pick_row _ rfl x _ r n).trans ?_
  exact drop_cast _ _ _ _

/-- One end of the segments as the kernel computes it, as a word. -/
theorem edge_word (m : BitVec 32) (k : ℤ) (hm : (m = 3#32 ∧ k = 3) ∨ (m = 6#32 ∧ k = 6)) (i : Fin 3) (b : Fin 2) :
    Scalar.select (IntOp.cmpi .eq (BitVec.ofNat 32 (0 * 2 + b.val)) 0#32)
      (Scalar.subi 1#32 (Scalar.muli m (Scalar.shli 1#32 (BitVec.ofNat 32 i.val)))) (Scalar.muli m (Scalar.shli 1#32 (BitVec.ofNat 32 i.val)))
      = edge k i b := by
  rcases hm with ⟨rfl, rfl⟩ | ⟨rfl, rfl⟩ <;> revert i b <;> decide +kernel

theorem edge_small (k : ℤ) (hk : k = 3 ∨ k = 6) (i : Fin 3) (b : Fin 2) : -1000 ≤ (edge k i b).toInt ∧ (edge k i b).toInt ≤ 1000 := by
  rcases hk with rfl | rfl <;> revert i b <;> decide +kernel

/-- The first result block: the picked times plus the ends of the segments of the anchors. -/
theorem block_anchors (i : grid3.Coords) (x : Vec Ideal S1x1x512x1 .f32) (y : Vec Ideal S1x1x512x20 .f32) (r : Fin 256) (b : Fin 2) :
    out3_2 (F := Ideal) i x y (ix4 (0 : Fin 1) (0 : Fin 1) r b) = BitVec.ofNat 32 (pick (colOf x) r).val + edge 3 (i 0) b := by
  unfold out3_2 k3_pay6
  rw [View.ld_unit_lit' _ _ (by decide)]
  refine (congrFun (View.canon_cons_unit_lit' _ _ _ (by decide)) _).trans ?_
  unfold k3_pay2
  refine (lead_cast _ _ r b).trans ?_
  refine (congrArg (Ideal.fptosi 32) (pick_row _ rfl x _ r b)).trans ?_
  have hw := edge_word 3#32 3 (.inl ⟨rfl, rfl⟩) (i 0) b
  refine Eq.trans ?_ (trunc_word (pick (colOf x) r) _ (edge_small 3 (.inl rfl) (i 0) b))
  rw [← hw, ← Nat.zero_add (pick (colOf x) r).val]
  rfl

/-- The second result block: the picked times plus the ends of the segments of the contexts. -/
theorem block_context (i : grid3.Coords) (x : Vec Ideal S1x1x512x1 .f32) (y : Vec Ideal S1x1x512x20 .f32) (r : Fin 256) (b : Fin 2) :
    out3_3 (F := Ideal) i x y (ix4 (0 : Fin 1) (0 : Fin 1) r b) = BitVec.ofNat 32 (pick (colOf x) r).val + edge 6 (i 0) b := by
  unfold out3_3 k3_pay6
  rw [View.ld_unit_lit' _ _ (by decide)]
  refine (congrFun (View.canon_cons_unit_lit' _ _ _ (by decide)) _).trans ?_
  unfold k3_pay3
  refine (lead_cast _ _ r b).trans ?_
  refine (congrArg (Ideal.fptosi 32) (pick_row _ rfl x _ r b)).trans ?_
  have hw := edge_word 6#32 6 (.inr ⟨rfl, rfl⟩) (i 0) b
  refine Eq.trans ?_ (trunc_word (pick (colOf x) r) _ (edge_small 6 (.inr rfl) (i 0) b))
  rw [← hw, ← Nat.zero_add (pick (colOf x) r).val]
  rfl

end Cert.Rank

end
-- ==== Proof.Array3.lean ====
module

public import proofs.«01_k».proof.Proof.Rank
public import Idealize.ShloMosaic.Lib.Pipeline.ValueKit.Geometry

@[expose] public section

/-! # The ranking kernel: its three result arrays

Each grid point ranks the rows of one branch and one batch element. -/

namespace Cert.Array3

open Idealize Idealize.ShloMosaic Idealize.ShloMosaic.ValueIdx Idealize.ShloMosaic.TcCoe Idealize.SL.Sem
open Cert.KernelIdeal Cert.KernelIdeal.Gen Cert.Ranking Cert.Rank

variable (V : (c : Dev nD) → (b : Ref sig .tc) → Buf (Elt Ideal) ((c : Thread nD τ).loc b)) (c : Dev nD)

/-- The branch and the batch element of a grid point. -/
abbrev branchAt (t : Fin cfg3.N) : Fin 3 := grid3.coords t 0
abbrev batchAt (t : Fin cfg3.N) : Fin 4 := grid3.coords t 1

theorem index0 : ∀ t : Fin cfg3.N, win3_0.index t (0 : Fin 4) = (grid3.coords t 0).val ∧ win3_0.index t (1 : Fin 4) = (grid3.coords t 1).val ∧ win3_0.index t (2 : Fin 4) = 0 ∧ win3_0.index t (3 : Fin 4) = 0 :=
  (by decide +kernel : ∀ t : Fin grid3.N, _)

theorem emb0 (t : Fin cfg3.N) (y : S1x1x512x1.Idx) : ((cfg3.win 0).blk t).view.emb y = ix4 (branchAt t) (batchAt t) (y 2) (y 3) := by
  obtain ⟨e0, e1, e2, e3⟩ := index0 t
  funext a; apply Fin.ext
  match a with
  | ⟨0, _⟩ =>
    have h0 : (y 0).val < 1 := (y 0).isLt
    show win3_0.index t (0 : Fin 4) * 1 + 1 * (y 0).val = (grid3.coords t 0).val; omega
  | ⟨1, _⟩ =>
    have h0 : (y 1).val < 1 := (y 1).isLt
    show win3_0.index t (1 : Fin 4) * 1 + 1 * (y 1).val = (grid3.coords t 1).val; omega
  | ⟨2, _⟩ => show win3_0.index t (2 : Fin 4) * 512 + 1 * (y 2).val = (y 2).val; omega
  | ⟨3, _⟩ => show win3_0.index t (3 : Fin 4) * 1 + 1 * (y 3).val = (y 3).val; omega

theorem index1 : ∀ t : Fin cfg3.N, win3_1.index t (0 : Fin 4) = (grid3.coords t 0).val ∧ win3_1.index t (1 : Fin 4) = (grid3.coords t 1).val ∧ win3_1.index t (2 : Fin 4) = 0 ∧ win3_1.index t (3 : Fin 4) = 0 :=
  (by decide +kernel : ∀ t : Fin grid3.N, _)

theorem emb1 (t : Fin cfg3.N) (y : S1x1x512x20.Idx) : ((cfg3.win 1).blk t).view.emb y = ix4 (branchAt t) (batchAt t) (y 2) (y 3) := by
  obtain ⟨e0, e1, e2, e3⟩ := index1 t
  funext a; apply Fin.ext
  match a with
  | ⟨0, _⟩ =>
    have h0 : (y 0).val < 1 := (y 0).isLt
    show win3_1.index t (0 : Fin 4) * 1 + 1 * (y 0).val = (grid3.coords t 0).val; omega
  | ⟨1, _⟩ =>
    have h0 : (y 1).val < 1 := (y 1).isLt
    show win3_1.index t (1 : Fin 4) * 1 + 1 * (y 1).val = (grid3.coords t 1).val; omega
  | ⟨2, _⟩ => show win3_1.index t (2 : Fin 4) * 512 + 1 * (y 2).val = (y 2).val; omega
  | ⟨3, _⟩ => show win3_1.index t (3 : Fin 4) * 20 + 1 * (y 3).val = (y 3).val; omega

theorem index2 : ∀ t : Fin cfg3.N, win3_2.index t (0 : Fin 4) = (grid3.coords t 0).val ∧ win3_2.index t (1 : Fin 4) = (grid3.coords t 1).val ∧ win3_2.index t (2 : Fin 4) = 0 ∧ win3_2.index t (3 : Fin 4) = 0 :=
  (by decide +kernel : ∀ t : Fin grid3.N, _)

theorem emb2 (t : Fin cfg3.N) (y : S1x1x256x2.Idx) : ((cfg3.win 2).blk t).view.emb y = ix4 (branchAt t) (batchAt t) (y 2) (y 3) := by
  obtain ⟨e0, e1, e2, e3⟩ := index2 t
  funext a; apply Fin.ext
  match a with
  | ⟨0, _⟩ =>
    have h0 : (y 0).val < 1 := (y 0).isLt
    show win3_2.index t (0 : Fin 4) * 1 + 1 * (y 0).val = (grid3.coords t 0).val; omega
  | ⟨1, _⟩ =>
    have h0 : (y 1).val < 1 := (y 1).isLt
    show win3_2.index t (1 : Fin 4) * 1 + 1 * (y 1).val = (grid3.coords t 1).val; omega
  | ⟨2, _⟩ => show win3_2.index t (2 : Fin 4) * 256 + 1 * (y 2).val = (y 2).val; omega
  | ⟨3, _⟩ => show win3_2.index t (3 : Fin 4) * 2 + 1 * (y 3).val = (y 3).val; omega

theorem index3 : ∀ t : Fin cfg3.N, win3_3.index t (0 : Fin 4) = (grid3.coords t 0).val ∧ win3_3.index t (1 : Fin 4) = (grid3.coords t 1).val ∧ win3_3.index t (2 : Fin 4) = 0 ∧ win3_3.index t (3 : Fin 4) = 0 :=
  (by decide +kernel : ∀ t : Fin grid3.N, _)

theorem emb3 (t : Fin cfg3.N) (y : S1x1x256x2.Idx) : ((cfg3.win 3).blk t).view.emb y = ix4 (branchAt t) (batchAt t) (y 2) (y 3) := by
  obtain ⟨e0, e1, e2, e3⟩ := index3 t
  funext a; apply Fin.ext
  match a with
  | ⟨0, _⟩ =>
    have h0 : (y 0).val < 1 := (y 0).isLt
    show win3_3.index t (0 : Fin 4) * 1 + 1 * (y 0).val = (grid3.coords t 0).val; omega
  | ⟨1, _⟩ =>
    have h0 : (y 1).val < 1 := (y 1).isLt
    show win3_3.index t (1 : Fin 4) * 1 + 1 * (y 1).val = (grid3.coords t 1).val; omega
  | ⟨2, _⟩ => show win3_3.index t (2 : Fin 4) * 256 + 1 * (y 2).val = (y 2).val; omega
  | ⟨3, _⟩ => show win3_3.index t (3 : Fin 4) * 2 + 1 * (y 3).val = (y 3).val; omega

theorem index4 : ∀ t : Fin cfg3.N, win3_4.index t (0 : Fin 4) = (grid3.coords t 0).val ∧ win3_4.index t (1 : Fin 4) = (grid3.coords t 1).val ∧ win3_4.index t (2 : Fin 4) = 0 ∧ win3_4.index t (3 : Fin 4) = 0 :=
  (by decide +kernel : ∀ t : Fin grid3.N, _)

theorem emb4 (t : Fin cfg3.N) (y : S1x1x256x20.Idx) : ((cfg3.win 4).blk t).view.emb y = ix4 (branchAt t) (batchAt t) (y 2) (y 3) := by
  obtain ⟨e0, e1, e2, e3⟩ := index4 t
  funext a; apply Fin.ext
  match a with
  | ⟨0, _⟩ =>
    have h0 : (y 0).val < 1 := (y 0).isLt
    show win3_4.index t (0 : Fin 4) * 1 + 1 * (y 0).val = (grid3.coords t 0).val; omega
  | ⟨1, _⟩ =>
    have h0 : (y 1).val < 1 := (y 1).isLt
    show win3_4.index t (1 : Fin 4) * 1 + 1 * (y 1).val = (grid3.coords t 1).val; omega
  | ⟨2, _⟩ => show win3_4.index t (2 : Fin 4) * 256 + 1 * (y 2).val = (y 2).val; omega
  | ⟨3, _⟩ => show win3_4.index t (3 : Fin 4) * 20 + 1 * (y 3).val = (y 3).val; omega

/-- The column that a grid point ranks, and the scores it picks from. -/
theorem input0 (t : Fin cfg3.N) : colOf (iblk3 V c 0 t) = fun s => (V c main_v29 : Vec Ideal S3x4x512x1 .f32) (ix4 (branchAt t) (batchAt t) s (0 : Fin 1)) :=
  funext fun s => congrArg (V c main_v29) (emb0 t (ix4 (0 : Fin 1) (0 : Fin 1) s (0 : Fin 1)))
theorem input1 (t : Fin cfg3.N) (s : Fin 512) (n : Fin 20) : (iblk3 V c 1 t : Vec Ideal S1x1x512x20 .f32) (ix4 (0 : Fin 1) (0 : Fin 1) s n)
    = (V c main_v27 : Vec Ideal S3x4x512x20 .f32) (ix4 (branchAt t) (batchAt t) s n) :=
  congrArg (V c main_v27) (emb1 t (ix4 (0 : Fin 1) (0 : Fin 1) s n))

/-- The three arrays: two kinds of segments and the scores, each at the picked rows. -/
noncomputable def anchors : Vec Ideal S3x4x256x2 .i32 := fun j =>
  BitVec.ofNat 32 (pick (fun s => (V c main_v29 : Vec Ideal S3x4x512x1 .f32) (ix4 (j 0) (j 1) s (0 : Fin 1))) (j 2)).val + edge 3 (j 0) (j 3)
noncomputable def context : Vec Ideal S3x4x256x2 .i32 := fun j =>
  BitVec.ofNat 32 (pick (fun s => (V c main_v29 : Vec Ideal S3x4x512x1 .f32) (ix4 (j 0) (j 1) s (0 : Fin 1))) (j 2)).val + edge 6 (j 0) (j 3)
noncomputable def scores : Vec Ideal S3x4x256x20 .f32 := fun j =>
  (V c main_v27 : Vec Ideal S3x4x512x20 .f32) (ix4 (j 0) (j 1) (pick (fun s => (V c main_v29 : Vec Ideal S3x4x512x1 .f32) (ix4 (j 0) (j 1) s (0 : Fin 1))) (j 2)) (j 3))

/-- The anchors after the kernel. -/
theorem final_anchors : (dat3 V c).arrAt 2 cfg3.N = anchors V c := by
  refine (dat3 V c).arrAt_eq_of_covers 2 (anchors V c) (by decide +kernel) fun t _ y => ?_
  show (dat3 V c).after 2 t y = anchors V c (((cfg3.win 2).blk t).view.emb y)
  have ey : (y : S1x1x256x2.Idx) = ix4 (0 : Fin 1) (0 : Fin 1) (y 2) (y 3) := by
    funext a; apply Fin.ext
    match a with
    | ⟨0, _⟩ =>
      have h0 : (y 0).val < 1 := (y 0).isLt
      show (y 0).val = 0; omega
    | ⟨1, _⟩ =>
      have h0 : (y 1).val < 1 := (y 1).isLt
      show (y 1).val = 0; omega
    | ⟨2, _⟩ => rfl
    | ⟨3, _⟩ => rfl
  rw [emb2, after3_2]
  refine (congrArg _ ey).trans ?_
  refine (Cert.Rank.block_anchors (grid3.coords t) (iblk3 V c 0 t) (iblk3 V c 1 t) (y 2) (y 3)).trans ?_
  rw [input0]
  rfl

/-- The contexts after the kernel. -/
theorem final_context : (dat3 V c).arrAt 3 cfg3.N = context V c := by
  refine (dat3 V c).arrAt_eq_of_covers 3 (context V c) (by decide +kernel) fun t _ y => ?_
  show (dat3 V c).after 3 t y = context V c (((cfg3.win 3).blk t).view.emb y)
  have ey : (y : S1x1x256x2.Idx) = ix4 (0 : Fin 1) (0 : Fin 1) (y 2) (y 3) := by
    funext a; apply Fin.ext
    match a with
    | ⟨0, _⟩ =>
      have h0 : (y 0).val < 1 := (y 0).isLt
      show (y 0).val = 0; omega
    | ⟨1, _⟩ =>
      have h0 : (y 1).val < 1 := (y 1).isLt
      show (y 1).val = 0; omega
    | ⟨2, _⟩ => rfl
    | ⟨3, _⟩ => rfl
  rw [emb3, after3_3]
  refine (congrArg _ ey).trans ?_
  refine (Cert.Rank.block_context (grid3.coords t) (iblk3 V c 0 t) (iblk3 V c 1 t) (y 2) (y 3)).trans ?_
  rw [input0]
  rfl

/-- The scores after the kernel. -/
theorem final_scores : (dat3 V c).arrAt 4 cfg3.N = scores V c := by
  refine (dat3 V c).arrAt_eq_of_covers 4 (scores V c) (by decide +kernel) fun t _ y => ?_
  show (dat3 V c).after 4 t y = scores V c (((cfg3.win 4).blk t).view.emb y)
  have ey : (y : S1x1x256x20.Idx) = ix4 (0 : Fin 1) (0 : Fin 1) (y 2) (y 3) := by
    funext a; apply Fin.ext
    match a with
    | ⟨0, _⟩ =>
      have h0 : (y 0).val < 1 := (y 0).isLt
      show (y 0).val = 0; omega
    | ⟨1, _⟩ =>
      have h0 : (y 1).val < 1 := (y 1).isLt
      show (y 1).val = 0; omega
    | ⟨2, _⟩ => rfl
    | ⟨3, _⟩ => rfl
  rw [emb4, after3_4]
  refine (congrArg _ ey).trans ?_
  refine (Cert.Rank.block_scores (grid3.coords t) (iblk3 V c 0 t) (iblk3 V c 1 t) (y 2) (y 3)).trans ?_
  rw [input0]
  exact input1 V c t _ (y 3)

end Cert.Array3

end
-- ==== Proof.Results.lean ====
module

public import proofs.«01_k».proof.Proof.Spec
public import proofs.«01_k».proof.Proof.Ranking

@[expose] public section

/-! # The three results as functions of the arguments

One set of weights per branch; the scores of a branch and a batch element; the rows ranked by the sum of their scores. -/

namespace Cert.Results

open Idealize Idealize.ShloMosaic Idealize.ShloMosaic.ValueIdx Cert.Spec Cert.Ranking
open scoped BigOperators

/-- The weights of one branch, in the layouts of the arguments: two convolutions of three taps (`output, input, tap`), and
a classifier over `fl` rows of `256` channels. -/
structure Weights (fl : ℕ) where
  w1 : (⟨3, ![256, 256, 3]⟩ : Shape).Idx → EReal
  b1 : (⟨1, ![256]⟩ : Shape).Idx → EReal
  w2 : (⟨3, ![256, 256, 3]⟩ : Shape).Idx → EReal
  b2 : (⟨1, ![256]⟩ : Shape).Idx → EReal
  wc : (⟨2, ![20, fl * 256]⟩ : Shape).Idx → EReal
  bc : (⟨1, ![20]⟩ : Shape).Idx → EReal

/-- All the arguments. -/
structure Inputs where
  x : (⟨3, ![4, 512, 256]⟩ : Shape).Idx → EReal
  first : Weights 12
  second : Weights 24
  third : Weights 48

/-- Column `j` of the classifier's weights, channel `c`. -/
def column {fl : ℕ} (j : Fin fl) (c : Fin 256) : Fin (fl * 256) := ⟨j.val * 256 + c.val, by
  have := j.isLt; have := c.isLt
  calc j.val * 256 + c.val < (j.val + 1) * 256 := by omega
    _ ≤ fl * 256 := Nat.mul_le_mul_right _ (by omega)⟩

/-- The scores of one branch at a batch element, a time and a class. -/
noncomputable def scored (p fl : ℕ) (x : (⟨3, ![4, 512, 256]⟩ : Shape).Idx → EReal) (w : Weights fl) (b : Fin 4) : Fin 512 → Fin 20 → EReal :=
  branch p fl (fun t c => x (ix3 b t c)) (fun j c o => w.w1 (ix3 o c j)) (fun o => w.b1 (ix1 o)) (fun j c o => w.w2 (ix3 o c j))
    (fun o => w.b2 (ix1 o)) (fun j c n => w.wc (ix2 n (column j c))) (fun n => w.bc (ix1 n))

/-- The scores of all three branches. -/
noncomputable def all (I : Inputs) : Fin 3 → Fin 4 → Fin 512 → Fin 20 → EReal :=
  ![scored 1 12 I.x I.first, scored 2 24 I.x I.second, scored 4 48 I.x I.third]

/-- What the rows of a branch and a batch element are ranked by. -/
noncomputable def activity (I : Inputs) (i : Fin 3) (b : Fin 4) (t : Fin 512) : EReal := ∑ n, all I i b t n

/-- The first result: the anchors of the picked rows. -/
noncomputable def anchors (I : Inputs) : (⟨4, ![3, 4, 256, 2]⟩ : Shape).Idx → BitVec 32 := fun j =>
  BitVec.ofNat 32 (pick (activity I (j 0) (j 1)) (j 2)).val + edge 3 (j 0) (j 3)

/-- The second result: the context segments of the picked rows. -/
noncomputable def context (I : Inputs) : (⟨4, ![3, 4, 256, 2]⟩ : Shape).Idx → BitVec 32 := fun j =>
  BitVec.ofNat 32 (pick (activity I (j 0) (j 1)) (j 2)).val + edge 6 (j 0) (j 3)

/-- The third result: the scores of the picked rows. -/
noncomputable def scores (I : Inputs) : (⟨4, ![3, 4, 256, 20]⟩ : Shape).Idx → EReal := fun j =>
  all I (j 0) (j 1) (pick (activity I (j 0) (j 1)) (j 2)) (j 3)

end Cert.Results

end
-- ==== Proof.Stack.lean ====
module

public import Idealize.ShloMosaic.Lib.ValueLayout
public import Idealize.ShloMosaic.Lib.KernelVsHost

@[expose] public section

/-! # Three arrays stacked, and a sum over the last axis -/

namespace Cert.Stack

open Idealize Idealize.ShloMosaic Idealize.ShloMosaic.ValueIdx
open scoped BigOperators

/-- Three arrays joined along a leading axis of size one each, at an index. -/
theorem stack_apply {α : Type} {p q r : ℕ} (v0 v1 v2 : (⟨4, ![1, p, q, r]⟩ : Shape).Idx → α)
    (h : Shape.Concatenates [(⟨4, ![1, p, q, r]⟩ : Shape), ⟨4, ![1, p, q, r]⟩, ⟨4, ![1, p, q, r]⟩] ⟨4, ![3, p, q, r]⟩ 0)
    (i : Fin 3) (b : Fin p) (t : Fin q) (n : Fin r) :
    concatenate (⟨4, ![3, p, q, r]⟩ : Shape) 0 [⟨⟨4, ![1, p, q, r]⟩, v0⟩, ⟨⟨4, ![1, p, q, r]⟩, v1⟩, ⟨⟨4, ![1, p, q, r]⟩, v2⟩] h (ix4 i b t n)
      = (![v0, v1, v2] : Fin 3 → _) i (ix4 (0 : Fin 1) b t n) := by
  match i with
  | ⟨0, _⟩ =>
    refine concatenate_apply_piece (t := ⟨4, ![3, p, q, r]⟩) (0 : Fin 4) [⟨⟨4, ![1, p, q, r]⟩, v0⟩, ⟨⟨4, ![1, p, q, r]⟩, v1⟩, ⟨⟨4, ![1, p, q, r]⟩, v2⟩] h _ 0 (Nat.lt_of_sub_eq_succ rfl) _ v0 rfl rfl 0 rfl (ix4 (0 : Fin 1) b t n) (fun a ha => ?_) rfl
    match a with
    | ⟨0, _⟩ => exact absurd rfl ha
    | ⟨1, _⟩ => rfl
    | ⟨2, _⟩ => rfl
    | ⟨3, _⟩ => rfl
  | ⟨1, _⟩ =>
    refine concatenate_apply_piece (t := ⟨4, ![3, p, q, r]⟩) (0 : Fin 4) [⟨⟨4, ![1, p, q, r]⟩, v0⟩, ⟨⟨4, ![1, p, q, r]⟩, v1⟩, ⟨⟨4, ![1, p, q, r]⟩, v2⟩] h _ 1 (Nat.lt_of_sub_eq_succ rfl) _ v1 rfl rfl 1 rfl (ix4 (0 : Fin 1) b t n) (fun a ha => ?_) rfl
    match a with
    | ⟨0, _⟩ => exact absurd rfl ha
    | ⟨1, _⟩ => rfl
    | ⟨2, _⟩ => rfl
    | ⟨3, _⟩ => rfl
  | ⟨2, _⟩ =>
    refine concatenate_apply_piece (t := ⟨4, ![3, p, q, r]⟩) (0 : Fin 4) [⟨⟨4, ![1, p, q, r]⟩, v0⟩, ⟨⟨4, ![1, p, q, r]⟩, v1⟩, ⟨⟨4, ![1, p, q, r]⟩, v2⟩] h _ 2 (Nat.lt_of_sub_eq_succ rfl) _ v2 rfl rfl 2 rfl (ix4 (0 : Fin 1) b t n) (fun a ha => ?_) rfl
    match a with
    | ⟨0, _⟩ => exact absurd rfl ha
    | ⟨1, _⟩ => rfl
    | ⟨2, _⟩ => rfl
    | ⟨3, _⟩ => rfl

/-- An array given a leading axis of size one, at an index. -/
theorem lead_apply {α : Type} (v : (⟨3, ![4, 512, 20]⟩ : Shape).Idx → α) (h : (⟨3, ![4, 512, 20]⟩ : Shape).BroadcastsInDim ⟨4, ![1, 4, 512, 20]⟩ ![1, 2, 3])
    (b : Fin 4) (t : Fin 512) (n : Fin 20) :
    broadcastInDim (⟨4, ![1, 4, 512, 20]⟩ : Shape) ![1, 2, 3] h v (ix4 (0 : Fin 1) b t n) = v (ix3 b t n) :=
  broadcastInDim_apply _ h v _ _ (by intro a; fin_cases a <;> rfl)

/-- A sum over the last axis, from zero. -/
theorem sum_apply (x : (⟨4, ![3, 4, 512, 20]⟩ : Shape).Idx → EReal) (z : (⟨0, ![]⟩ : Shape).Idx → EReal) (hz : ∀ k, z k = 0)
    (h : (⟨4, ![3, 4, 512, 20]⟩ : Shape).ReducesTo [3] ⟨3, ![3, 4, 512]⟩) (hp : 0 < (⟨0, ![]⟩ : Shape).numel)
    (i : Fin 3) (b : Fin 4) (t : Fin 512) :
    Host.reduceAdd (F := Ideal) (φ := .f32) x z h hp (ix3 i b t) = ∑ n : Fin 20, x (ix4 i b t n) := by
  simp only [Host.reduceAdd, Ideal.hostReduceAdd_def]
  rw [Ideal.hostReduceAdd_single h (by decide), hz, zero_add]
  refine Finset.sum_congr rfl fun n _ => congrArg x ?_
  funext a; apply Fin.ext
  match a with
  | ⟨0, _⟩ => rfl
  | ⟨1, _⟩ => rfl
  | ⟨2, _⟩ => rfl
  | ⟨3, _⟩ => rfl

end Cert.Stack

end
-- ==== Proof.Fold.lean ====
module

public import proofs.«01_k».proof.Proof.Array0
public import proofs.«01_k».proof.Proof.Array1
public import proofs.«01_k».proof.Proof.Array2
public import proofs.«01_k».proof.Proof.Array3
public import proofs.«01_k».proof.Proof.Results
public import proofs.«01_k».proof.Proof.Stack
public import Idealize.ShloMosaic.Lib.StableHlo.Run

@[expose] public section

/-! # From the arguments to the arrays of each kernel -/

namespace Cert.Fold

open Idealize Idealize.ShloMosaic Idealize.ShloMosaic.ValueIdx Idealize.ShloMosaic.TcCoe Idealize.SL.Sem
open Cert.KernelIdeal Cert.KernelIdeal.Gen Cert.Spec Cert.Padded Cert.Results

variable (m : (ℓ : Loc nD τ sig) → Buf (Elt Ideal) ℓ) (ρ : Dev nD → PrngReg) (c : Dev nD)

/-! ## The re-laid weights -/

/-- A convolution's weights with the taps first. -/
theorem taps_first (w : (⟨3, ![256, 256, 3]⟩ : Shape).Idx → EReal) (h : S256x256x3.Transposes [2, 1, 0] S3x256x256) :
    stackOf (transpose S3x256x256 [2, 1, 0] w h) = fun j ch o => w (ix3 o ch j) :=
  funext fun j => funext fun ch => funext fun o => transpose_apply _ _ h _ _ (by intro b; fin_cases b <;> rfl)

/-- A bias as a row. -/
theorem row_of {n : ℕ} (v : (⟨1, ![n]⟩ : Shape).Idx → EReal) (h : (⟨1, ![n]⟩ : Shape).ShapeCasts ⟨2, ![1, n]⟩) :
    vecOf (shapeCast ⟨2, ![1, n]⟩ v h) = fun o => v (ix1 o) :=
  funext fun o => shapeCast_a_1a_apply _ _ _ _

/-- The classifier's weights cut into rows of channels, rows first. -/
theorem rows_first {fl : ℕ} (v : (⟨2, ![20, fl * 256]⟩ : Shape).Idx → EReal) (h : (⟨2, ![20, fl * 256]⟩ : Shape).ShapeCasts ⟨3, ![20, fl, 256]⟩)
    (ht : (⟨3, ![20, fl, 256]⟩ : Shape).Transposes [1, 2, 0] ⟨3, ![fl, 256, 20]⟩) :
    stackOf (transpose ⟨3, ![fl, 256, 20]⟩ [1, 2, 0] (shapeCast ⟨3, ![20, fl, 256]⟩ v h) ht) = fun j ch n => v (ix2 n (column j ch)) :=
  funext fun j => funext fun ch => funext fun n =>
    (transpose_apply _ _ ht _ (ix3 n j ch) (by intro b; fin_cases b <;> rfl)).trans (shapeCast_apply v h _ _ (by
      rw [Shape.rowMajor_val_three, Shape.rowMajor_val_two]
      show n.val * (fl * 256) + (j.val * 256 + ch.val) = (n.val * fl + j.val) * 256 + ch.val
      ring))

/-- The arguments of a run. -/
def inputs : Inputs where
  x := m ((c : Thread nD τ).loc main_arg0)
  first := ⟨m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩
  second := ⟨m ((c : Thread nD τ).loc main_arg7), m ((c : Thread nD τ).loc main_arg8), m ((c : Thread nD τ).loc main_arg9),
    m ((c : Thread nD τ).loc main_arg10), m ((c : Thread nD τ).loc main_arg11), m ((c : Thread nD τ).loc main_arg12)⟩
  third := ⟨m ((c : Thread nD τ).loc main_arg13), m ((c : Thread nD τ).loc main_arg14), m ((c : Thread nD τ).loc main_arg15),
    m ((c : Thread nD τ).loc main_arg16), m ((c : Thread nD τ).loc main_arg17), m ((c : Thread nD τ).loc main_arg18)⟩

/-! ## The arrays that the kernel of the first branch reads -/

theorem entry0_w1 : stackOf (V1 m ρ c main_v0) = fun j ch o => (inputs m c).first.w1 (ix3 o ch j) := by
  have e : V1 m ρ c main_v0 = transpose S3x256x256 [2, 1, 0] (W0 m ρ c main_arg1) transposes_S256x256x3_S3x256x256_2_1_0 := by
    show StableHlo.after hostOps0 _ _ = _
    after_results
  rw [e, W0_args m ρ c main_arg1 (by decide +kernel)]
  exact taps_first _ _

theorem entry0_w2 : stackOf (V1 m ρ c main_v1) = fun j ch o => (inputs m c).first.w2 (ix3 o ch j) := by
  have e : V1 m ρ c main_v1 = transpose S3x256x256 [2, 1, 0] (W0 m ρ c main_arg3) transposes_S256x256x3_S3x256x256_2_1_0 := by
    show StableHlo.after hostOps0 _ _ = _
    after_results
  rw [e, W0_args m ρ c main_arg3 (by decide +kernel)]
  exact taps_first _ _

theorem entry0_b1 : vecOf (V1 m ρ c main_v4) = fun o => (inputs m c).first.b1 (ix1 o) := by
  have e : V1 m ρ c main_v4 = shapeCast S1x256 (W0 m ρ c main_arg2) shapeCasts_S256_S1x256 := by
    show StableHlo.after hostOps0 _ _ = _
    after_results
    rfl
  rw [e, W0_args m ρ c main_arg2 (by decide +kernel)]
  exact row_of _ _

theorem entry0_b2 : vecOf (V1 m ρ c main_v5) = fun o => (inputs m c).first.b2 (ix1 o) := by
  have e : V1 m ρ c main_v5 = shapeCast S1x256 (W0 m ρ c main_arg4) shapeCasts_S256_S1x256 := by
    show StableHlo.after hostOps0 _ _ = _
    after_results
    rfl
  rw [e, W0_args m ρ c main_arg4 (by decide +kernel)]
  exact row_of _ _

theorem entry0_wc : stackOf (V1 m ρ c main_v3) = fun j ch n => (inputs m c).first.wc (ix2 n (column j ch)) := by
  have e : V1 m ρ c main_v3 = transpose S12x256x20 [1, 2, 0] (shapeCast S20x12x256 (W0 m ρ c main_arg5) shapeCasts_S20x3072_S20x12x256) transposes_S20x12x256_S12x256x20_1_2_0 := by
    show StableHlo.after hostOps0 _ _ = _
    after_results
    rfl
  rw [e, W0_args m ρ c main_arg5 (by decide +kernel)]
  exact rows_first (fl := 12) _ _ _

theorem entry0_bc : vecOf (V1 m ρ c main_v6) = fun o => (inputs m c).first.bc (ix1 o) := by
  have e : V1 m ρ c main_v6 = shapeCast S1x20 (W0 m ρ c main_arg6) shapeCasts_S20_S1x20 := by
    show StableHlo.after hostOps0 _ _ = _
    after_results
    rfl
  rw [e, W0_args m ρ c main_arg6 (by decide +kernel)]
  exact row_of _ _

/-- The scores of the first branch. -/
theorem leave0 : Cert.Array0.result (V1 m ρ) c = fun j => scored 1 12 (inputs m c).x (inputs m c).first (j 0) (j 1) (j 2) := by
  funext j
  unfold Cert.Array0.result scored
  rw [entry0_w1, entry0_w2, entry0_b1, entry0_b2, entry0_wc, entry0_bc, show V1 m ρ c main_arg0 = m ((c : Thread nD τ).loc main_arg0) from W1_args m ρ c main_arg0 (by decide +kernel)]
  rfl

/-! ## The arrays that the kernel of the second branch reads -/

theorem entry1_w1 : stackOf (V3 m ρ c main_v8) = fun j ch o => (inputs m c).second.w1 (ix3 o ch j) := by
  have e : V3 m ρ c main_v8 = transpose S3x256x256 [2, 1, 0] (W2 m ρ c main_arg7) transposes_S256x256x3_S3x256x256_2_1_0 := by
    show StableHlo.after hostOps1 _ _ = _
    after_results
  rw [e, W2_args m ρ c main_arg7 (by decide +kernel)]
  exact taps_first _ _

theorem entry1_w2 : stackOf (V3 m ρ c main_v9) = fun j ch o => (inputs m c).second.w2 (ix3 o ch j) := by
  have e : V3 m ρ c main_v9 = transpose S3x256x256 [2, 1, 0] (W2 m ρ c main_arg9) transposes_S256x256x3_S3x256x256_2_1_0 := by
    show StableHlo.after hostOps1 _ _ = _
    after_results
  rw [e, W2_args m ρ c main_arg9 (by decide +kernel)]
  exact taps_first _ _

theorem entry1_b1 : vecOf (V3 m ρ c main_v12) = fun o => (inputs m c).second.b1 (ix1 o) := by
  have e : V3 m ρ c main_v12 = shapeCast S1x256 (W2 m ρ c main_arg8) shapeCasts_S256_S1x256 := by
    show StableHlo.after hostOps1 _ _ = _
    after_results
    rfl
  rw [e, W2_args m ρ c main_arg8 (by decide +kernel)]
  exact row_of _ _

theorem entry1_b2 : vecOf (V3 m ρ c main_v13) = fun o => (inputs m c).second.b2 (ix1 o) := by
  have e : V3 m ρ c main_v13 = shapeCast S1x256 (W2 m ρ c main_arg10) shapeCasts_S256_S1x256 := by
    show StableHlo.after hostOps1 _ _ = _
    after_results
    rfl
  rw [e, W2_args m ρ c main_arg10 (by decide +kernel)]
  exact row_of _ _

theorem entry1_wc : stackOf (V3 m ρ c main_v11) = fun j ch n => (inputs m c).second.wc (ix2 n (column j ch)) := by
  have e : V3 m ρ c main_v11 = transpose S24x256x20 [1, 2, 0] (shapeCast S20x24x256 (W2 m ρ c main_arg11) shapeCasts_S20x6144_S20x24x256) transposes_S20x24x256_S24x256x20_1_2_0 := by
    show StableHlo.after hostOps1 _ _ = _
    after_results
    rfl
  rw [e, W2_args m ρ c main_arg11 (by decide +kernel)]
  exact rows_first (fl := 24) _ _ _

theorem entry1_bc : vecOf (V3 m ρ c main_v14) = fun o => (inputs m c).second.bc (ix1 o) := by
  have e : V3 m ρ c main_v14 = shapeCast S1x20 (W2 m ρ c main_arg12) shapeCasts_S20_S1x20 := by
    show StableHlo.after hostOps1 _ _ = _
    after_results
    rfl
  rw [e, W2_args m ρ c main_arg12 (by decide +kernel)]
  exact row_of _ _

/-- The scores of the second branch. -/
theorem leave1 : Cert.Array1.result (V3 m ρ) c = fun j => scored 2 24 (inputs m c).x (inputs m c).second (j 0) (j 1) (j 2) := by
  funext j
  unfold Cert.Array1.result scored
  rw [entry1_w1, entry1_w2, entry1_b1, entry1_b2, entry1_wc, entry1_bc, show V3 m ρ c main_arg0 = m ((c : Thread nD τ).loc main_arg0) from W3_args m ρ c main_arg0 (by decide +kernel)]
  rfl

/-! ## The arrays that the kernel of the third branch reads -/

theorem entry2_w1 : stackOf (V5 m ρ c main_v16) = fun j ch o => (inputs m c).third.w1 (ix3 o ch j) := by
  have e : V5 m ρ c main_v16 = transpose S3x256x256 [2, 1, 0] (W4 m ρ c main_arg13) transposes_S256x256x3_S3x256x256_2_1_0 := by
    show StableHlo.after hostOps2 _ _ = _
    after_results
  rw [e, W4_args m ρ c main_arg13 (by decide +kernel)]
  exact taps_first _ _

theorem entry2_w2 : stackOf (V5 m ρ c main_v17) = fun j ch o => (inputs m c).third.w2 (ix3 o ch j) := by
  have e : V5 m ρ c main_v17 = transpose S3x256x256 [2, 1, 0] (W4 m ρ c main_arg15) transposes_S256x256x3_S3x256x256_2_1_0 := by
    show StableHlo.after hostOps2 _ _ = _
    after_results
  rw [e, W4_args m ρ c main_arg15 (by decide +kernel)]
  exact taps_first _ _

theorem entry2_b1 : vecOf (V5 m ρ c main_v20) = fun o => (inputs m c).third.b1 (ix1 o) := by
  have e : V5 m ρ c main_v20 = shapeCast S1x256 (W4 m ρ c main_arg14) shapeCasts_S256_S1x256 := by
    show StableHlo.after hostOps2 _ _ = _
    after_results
    rfl
  rw [e, W4_args m ρ c main_arg14 (by decide +kernel)]
  exact row_of _ _

theorem entry2_b2 : vecOf (V5 m ρ c main_v21) = fun o => (inputs m c).third.b2 (ix1 o) := by
  have e : V5 m ρ c main_v21 = shapeCast S1x256 (W4 m ρ c main_arg16) shapeCasts_S256_S1x256 := by
    show StableHlo.after hostOps2 _ _ = _
    after_results
    rfl
  rw [e, W4_args m ρ c main_arg16 (by decide +kernel)]
  exact row_of _ _

theorem entry2_wc : stackOf (V5 m ρ c main_v19) = fun j ch n => (inputs m c).third.wc (ix2 n (column j ch)) := by
  have e : V5 m ρ c main_v19 = transpose S48x256x20 [1, 2, 0] (shapeCast S20x48x256 (W4 m ρ c main_arg17) shapeCasts_S20x12288_S20x48x256) transposes_S20x48x256_S48x256x20_1_2_0 := by
    show StableHlo.after hostOps2 _ _ = _
    after_results
    rfl
  rw [e, W4_args m ρ c main_arg17 (by decide +kernel)]
  exact rows_first (fl := 48) _ _ _

theorem entry2_bc : vecOf (V5 m ρ c main_v22) = fun o => (inputs m c).third.bc (ix1 o) := by
  have e : V5 m ρ c main_v22 = shapeCast S1x20 (W4 m ρ c main_arg18) shapeCasts_S20_S1x20 := by
    show StableHlo.after hostOps2 _ _ = _
    after_results
    rfl
  rw [e, W4_args m ρ c main_arg18 (by decide +kernel)]
  exact row_of _ _

/-- The scores of the third branch. -/
theorem leave2 : Cert.Array2.result (V5 m ρ) c = fun j => scored 4 48 (inputs m c).x (inputs m c).third (j 0) (j 1) (j 2) := by
  funext j
  unfold Cert.Array2.result scored
  rw [entry2_w1, entry2_w2, entry2_b1, entry2_b2, entry2_wc, entry2_bc, show V5 m ρ c main_arg0 = m ((c : Thread nD τ).loc main_arg0) from W5_args m ρ c main_arg0 (by decide +kernel)]
  rfl

/-! ## The arrays that the ranking kernel reads -/

theorem kept0 : W6 m ρ c main_v7 = fun j => scored 1 12 (inputs m c).x (inputs m c).first (j 0) (j 1) (j 2) :=
  ((W6_of m ρ c main_v7 (by decide +kernel)).trans ((W5_of m ρ c main_v7 (by decide +kernel)).trans ((W4_of m ρ c main_v7 (by decide +kernel)).trans
    ((W3_of m ρ c main_v7 (by decide +kernel)).trans ((W2_arr m ρ c 9).trans (Cert.Array0.final (V1 m ρ) c)))))).trans (leave0 m ρ c)
theorem kept1 : W6 m ρ c main_v15 = fun j => scored 2 24 (inputs m c).x (inputs m c).second (j 0) (j 1) (j 2) :=
  ((W6_of m ρ c main_v15 (by decide +kernel)).trans ((W5_of m ρ c main_v15 (by decide +kernel)).trans ((W4_arr m ρ c 9).trans (Cert.Array1.final (V3 m ρ) c)))).trans (leave1 m ρ c)
theorem kept2 : W6 m ρ c main_v23 = fun j => scored 4 48 (inputs m c).x (inputs m c).third (j 0) (j 1) (j 2) :=
  ((W6_arr m ρ c 9).trans (Cert.Array2.final (V5 m ρ) c)).trans (leave2 m ρ c)

/-- The three branches stacked. -/
noncomputable abbrev stacked (u0 u1 u2 : Vec Ideal S4x512x20 .f32) : Vec Ideal S3x4x512x20 .f32 :=
  concatenate S3x4x512x20 0 [⟨S1x4x512x20, broadcastInDim S1x4x512x20 ![1, 2, 3] bcast_S4x512x20_S1x4x512x20_1_2_3 u0⟩,
    ⟨S1x4x512x20, broadcastInDim S1x4x512x20 ![1, 2, 3] bcast_S4x512x20_S1x4x512x20_1_2_3 u1⟩,
    ⟨S1x4x512x20, broadcastInDim S1x4x512x20 ![1, 2, 3] bcast_S4x512x20_S1x4x512x20_1_2_3 u2⟩] concatenates_S1x4x512x20_S1x4x512x20_S1x4x512x20_S3x4x512x20_d0

theorem stack_entry : (V7 m ρ c main_v27 : Vec Ideal S3x4x512x20 .f32) = stacked (W6 m ρ c main_v7) (W6 m ρ c main_v15) (W6 m ρ c main_v23) := by
  show StableHlo.after hostOps3 _ _ = _
  after_results
  rfl

theorem sum_entry : (V7 m ρ c main_v29 : Vec Ideal S3x4x512x1 .f32) = broadcastInDim S3x4x512x1 ![0, 1, 2] bcast_S3x4x512_S3x4x512x1_0_1_2
    (Host.reduceAdd (F := Ideal) (φ := .f32) (stacked (W6 m ρ c main_v7) (W6 m ρ c main_v15) (W6 m ρ c main_v23)) (constant (F := Ideal) S_ .f32 0x00000000#32) reducesTo_S3x4x512x20_S3x4x512_d3 h_S_) := by
  show StableHlo.after hostOps3 _ _ = _
  after_results
  rfl

/-- The stacked scores are the scores of the three branches. -/
theorem stack_value (i : Fin 3) (b : Fin 4) (t : Fin 512) (n : Fin 20) :
    (V7 m ρ c main_v27 : Vec Ideal S3x4x512x20 .f32) (ix4 i b t n) = all (inputs m c) i b t n := by
  rw [stack_entry]
  unfold stacked
  refine (Cert.Stack.stack_apply _ _ _ _ i b t n).trans ?_
  rw [kept0, kept1, kept2]
  unfold all
  match i with
  | ⟨0, _⟩ => exact Cert.Stack.lead_apply (fun j => scored 1 12 (inputs m c).x (inputs m c).first (j 0) (j 1) (j 2)) bcast_S4x512x20_S1x4x512x20_1_2_3 b t n
  | ⟨1, _⟩ => exact Cert.Stack.lead_apply (fun j => scored 2 24 (inputs m c).x (inputs m c).second (j 0) (j 1) (j 2)) bcast_S4x512x20_S1x4x512x20_1_2_3 b t n
  | ⟨2, _⟩ => exact Cert.Stack.lead_apply (fun j => scored 4 48 (inputs m c).x (inputs m c).third (j 0) (j 1) (j 2)) bcast_S4x512x20_S1x4x512x20_1_2_3 b t n

/-- The column that the ranking kernel reads is the sum of each row's scores. -/
theorem sum_value (i : Fin 3) (b : Fin 4) (t : Fin 512) :
    (V7 m ρ c main_v29 : Vec Ideal S3x4x512x1 .f32) (ix4 i b t (0 : Fin 1)) = activity (inputs m c) i b t := by
  rw [sum_entry]
  refine (broadcastInDim_apply _ _ _ _ (ix3 i b t) (by intro a; fin_cases a <;> rfl)).trans ?_
  refine (Cert.Stack.sum_apply _ _ (fun _ => Ideal.ofBits_zero_f32) _ _ i b t).trans ?_
  exact Finset.sum_congr rfl fun n _ => (congrFun (stack_entry m ρ c) _).symm.trans (stack_value m ρ c i b t n)

theorem column_value (i : Fin 3) (b : Fin 4) :
    (fun t => (V7 m ρ c main_v29 : Vec Ideal S3x4x512x1 .f32) (ix4 i b t (0 : Fin 1))) = activity (inputs m c) i b :=
  funext fun t => sum_value m ρ c i b t

/-! ## The results -/

theorem final_anchors : W8 m ρ c main_v30_0 = anchors (inputs m c) := by
  refine ((W8_arr m ρ c 2).trans (Cert.Array3.final_anchors (V7 m ρ) c)).trans ?_
  funext j
  exact congrArg (fun a => BitVec.ofNat 32 (Cert.Ranking.pick a (j 2)).val + Cert.Ranking.edge 3 (j 0) (j 3)) (column_value m ρ c (j 0) (j 1))

theorem final_context : W8 m ρ c main_v30_1 = context (inputs m c) := by
  refine ((W8_arr m ρ c 3).trans (Cert.Array3.final_context (V7 m ρ) c)).trans ?_
  funext j
  exact congrArg (fun a => BitVec.ofNat 32 (Cert.Ranking.pick a (j 2)).val + Cert.Ranking.edge 6 (j 0) (j 3)) (column_value m ρ c (j 0) (j 1))

theorem final_scores : W8 m ρ c main_v30_2 = scores (inputs m c) := by
  refine ((W8_arr m ρ c 4).trans (Cert.Array3.final_scores (V7 m ρ) c)).trans ?_
  funext j
  refine (stack_value m ρ c (j 0) (j 1) _ (j 3)).trans ?_
  exact congrArg (fun a => all (inputs m c) (j 0) (j 1) (Cert.Ranking.pick a (j 2)) (j 3)) (column_value m ρ c (j 0) (j 1))

end Cert.Fold

end
-- ==== Proof.KernelRun.lean ====
module

public import proofs.«01_k».proof.Proof.Fold

@[expose] public section

/-! # The kernel's run: its three results and its arguments at the end -/

namespace Cert.KernelRun

open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Results Cert.Fold

variable (m : (ℓ : Loc nD τ sig) → Buf (Elt Ideal) ℓ) (ρ : Dev nD → PrngReg)

/-- The resources that a run's assertions speak of. -/
abbrev Res : Type := MT nD τ sig Unit (Elt Ideal) ℕ (UR sig nD τ) ℕ

set_option backward.isDefEq.respectTransparency.types false in
/-- Every run ends with each buffer of the array level as the last region leaves it. -/
theorem ends : θ_run defs (onTc (τ := τ) (main (F := Ideal))) ⟨m, fun _ => 0, ρ⟩ (fun r =>
      (∀ c : Dev nD, ∀ b ∈ Pipeline.ucRefs τ sig, r.2.mem (((c : Thread nD τ)).1, b) = W8 m ρ c b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The kernel's three results as functions of its arguments, which end unchanged. -/
theorem run : θ_run defs (onTc (τ := τ) (main (F := Ideal))) ⟨m, fun _ => 0, ρ⟩ (fun r => ∀ c : Dev nD,
      r.2.mem ((c.tc : Thread nD τ).loc main_v30_0) = anchors (inputs m c)
      ∧ r.2.mem ((c.tc : Thread nD τ).loc main_v30_1) = context (inputs m c)
      ∧ r.2.mem ((c.tc : Thread nD τ).loc main_v30_2) = scores (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v30_0 (by decide))).trans (final_anchors m ρ c),
     (h c _ (mem_uc main_v30_1 (by decide))).trans (final_context m ρ c),
     (h c _ (mem_uc main_v30_2 (by decide))).trans (final_scores m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c)⟩) (ends m ρ)

end Cert.KernelRun

end
-- ==== Proof.HostConv.lean ====
module

public import Idealize.ShloMosaic.Lib.MatmulPlain
public import Idealize.ShloMosaic.Lib.ValueLayout
public import Idealize.ShloMosaic.Lib.KernelVsHost
public import proofs.«01_k».proof.Proof.Padded
public import proofs.«01_k».proof.Proof.Results

@[expose] public section

/-! # Whole arrays: pooling, padding and a three-tap convolution, at an index -/

namespace Cert.HostConv

open Idealize Idealize.ShloMosaic Idealize.ShloMosaic.ValueIdx
open Cert.Spec Cert.Results
open scoped BigOperators

/-- The dimension numbers of a product of `[4, 512, m]` with the rows of `[o, m]`. -/
abbrev rowsDims (m o : ℕ) (wf : DotDims.WF ⟨3, ![4, 512, m]⟩ ⟨2, ![o, m]⟩ ⟨3, ![4, 512, o]⟩ [2] [1] [0, 1] [0] [] []) :
    DotDims ⟨3, ![4, 512, m]⟩ ⟨2, ![o, m]⟩ ⟨3, ![4, 512, o]⟩ :=
  ⟨[2], [1], [0, 1], [0], [], [], wf⟩

/-- That product at an index. -/
theorem dot_apply {m o : ℕ} (wf : DotDims.WF ⟨3, ![4, 512, m]⟩ ⟨2, ![o, m]⟩ ⟨3, ![4, 512, o]⟩ [2] [1] [0, 1] [0] [] [])
    (L : FVec Ideal ⟨3, ![4, 512, m]⟩ .f32) (R : FVec Ideal ⟨2, ![o, m]⟩ .f32) (b : Fin 4) (t : Fin 512) (n : Fin o) :
    Host.dotGeneral (rowsDims m o wf) none L R (ix3 b t n) = ∑ k : Fin m, L (ix3 b t k) * R (ix2 n k) := by
  show FloatOps.dotGeneral _ none _ L R (ix3 b t n) = _
  rw [Ideal.dotGeneral_apply, ← Equiv.sum_comp (contrEquiv1 (rowsDims m o wf) m rfl rfl).symm]
  refine Finset.sum_congr rfl fun c _ => ?_
  have c3 := contrEquiv1_symm_val (rowsDims m o wf) m rfl rfl c
  have l3 : (rowsDims m o wf).lhsIdx (ix3 b t n) ((contrEquiv1 _ m rfl rfl).symm c) = ix3 b t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (rowsDims m o wf).rhsIdx (ix3 b t n) ((contrEquiv1 _ m rfl rfl).symm c) = ix2 n c := by
    funext ax; apply Fin.ext
    match ax with
    | ⟨0, _⟩ => simp [DotDims.rhsIdx]; rfl
    | ⟨1, _⟩ => simp [DotDims.rhsIdx]; exact c3
  rw [l3, r3]

/-- A running maximum from `-∞` is the supremum. -/
theorem foldl_max {ι : Type} (l : List ι) (f : ι → EReal) (z : EReal) : l.foldl (fun r n => max r (f n)) z = z ⊔ (l.map f).foldr (· ⊔ ·) ⊥ := by
  induction l generalizing z with
  | nil => simp
  | cons a l ih => simp [ih, max_assoc]

theorem foldr_sup {ι : Type} (l : List ι) (f : ι → EReal) (c : EReal) : (l.map f).foldr (· ⊔ ·) ⊥ ≤ c ↔ ∀ n ∈ l, f n ≤ c := by
  induction l with
  | nil => simp
  | cons a l ih => simp [ih]

/-- One position of a pooling window: the operand's row there, or `-∞` outside. -/
theorem window_entry (p : ℕ) (hp : p ≤ 24) (x : (⟨3, ![4, 512, 256]⟩ : Shape).Idx → EReal) (b : Fin 4) (t : Fin 512) (c : Fin 256)
    (e : 3 = 3) (w : (⟨3, ![1, 2 * p + 1, 1]⟩ : Shape).Idx) :
    (if hin : ∀ a : Fin 3, (![0, p, 0] : Fin 3 → ℕ) a ≤ ((ix3 b t c : (⟨3, ![4, 512, 256]⟩ : Shape).Idx) (a.cast e)).val * (![1, 1, 1] : Fin 3 → ℕ) a + (w a).val
        ∧ ((ix3 b t c : (⟨3, ![4, 512, 256]⟩ : Shape).Idx) (a.cast e)).val * (![1, 1, 1] : Fin 3 → ℕ) a + (w a).val - (![0, p, 0] : Fin 3 → ℕ) a < (![4, 512, 256] : Fin 3 → ℕ) a then
      x (fun a => ⟨((ix3 b t c : (⟨3, ![4, 512, 256]⟩ : Shape).Idx) (a.cast e)).val * (![1, 1, 1] : Fin 3 → ℕ) a + (w a).val - (![0, p, 0] : Fin 3 → ℕ) a, (hin a).2⟩)
    else (⊥ : EReal)) = padAt ⊥ (fun t c => x (ix3 b t c)) (24 - p + (w 1).val + t.val) c := by
  have hw0 : (w 0).val = 0 := Nat.lt_one_iff.mp (w 0).isLt
  have hw1 : (w 1).val < 2 * p + 1 := (w 1).isLt
  have hw2 : (w 2).val = 0 := Nat.lt_one_iff.mp (w 2).isLt
  have hb := b.isLt
  have ht := t.isLt
  have hc := c.isLt
  unfold padAt
  by_cases H : p ≤ t.val + (w 1).val ∧ t.val + (w 1).val - p < 512
  · rw [dif_pos (show 24 ≤ 24 - p + (w 1).val + t.val ∧ 24 - p + (w 1).val + t.val < 536 from by omega)]
    rw [dif_pos (show ∀ a : Fin 3, _ from fun a => by
      match a with
      | ⟨0, _⟩ => show 0 ≤ b.val * 1 + (w 0).val ∧ b.val * 1 + (w 0).val - 0 < 4; omega
      | ⟨1, _⟩ => show p ≤ t.val * 1 + (w 1).val ∧ t.val * 1 + (w 1).val - p < 512; omega
      | ⟨2, _⟩ => show 0 ≤ c.val * 1 + (w 2).val ∧ c.val * 1 + (w 2).val - 0 < 256; omega)]
    refine congrArg x (funext fun a => Fin.ext ?_)
    match a with
    | ⟨0, _⟩ => show b.val * 1 + (w 0).val - 0 = b.val; omega
    | ⟨1, _⟩ => show t.val * 1 + (w 1).val - p = 24 - p + (w 1).val + t.val - 24; omega
    | ⟨2, _⟩ => show c.val * 1 + (w 2).val - 0 = c.val; omega
  · rw [dif_neg (fun hh => H (by
      have h1 : p ≤ t.val * 1 + (w 1).val ∧ t.val * 1 + (w 1).val - p < 512 := hh 1
      omega)), dif_neg (by omega)]

/-- The host's max pooling along time at an index. -/
theorem pool_apply (p : ℕ) (hp : p ≤ 24) (x : (⟨3, ![4, 512, 256]⟩ : Shape).Idx → EReal) (z : (⟨0, ![]⟩ : Shape).Idx → EReal) (hz : ∀ k, z k = ⊥)
    (h : (⟨3, ![4, 512, 256]⟩ : Shape).ReduceWindows ![1, 2 * p + 1, 1] ![1, 1, 1] ![0, p, 0] ![0, p, 0] ⟨3, ![4, 512, 256]⟩)
    (hu : 0 < (⟨0, ![]⟩ : Shape).numel) (b : Fin 4) (t : Fin 512) (c : Fin 256) :
    Host.reduceWindow (FloatOps.maximumf (F := Ideal) (φ := .f32)) ![1, 2 * p + 1, 1] ![1, 1, 1] ![0, p, 0] ![0, p, 0] x z h hu (ix3 b t c)
      = pool p (fun t c => x (ix3 b t c)) t c := by
  unfold Host.reduceWindow
  simp only [hz]
  refine (foldl_max _ _ _).trans ?_
  rw [bot_sup_eq]
  refine le_antisymm ((foldr_sup _ _ _).mpr fun n _ => ?_) (Finset.sup_le fun j hj => ?_)
  · refine (window_entry p hp x b t c _ _).le.trans ?_
    exact Finset.le_sup (f := fun j => padAt ⊥ (fun t c => x (ix3 b t c)) (24 - p + j + t.val) c) (Finset.mem_range.mpr (Fin.isLt _))
  · refine le_trans (le_of_eq ?_) ((foldr_sup _ _ _).mp le_rfl (Shape.rowMajor ⟨3, ![1, 2 * p + 1, 1]⟩ (ix3 (0 : Fin 1) ⟨j, Finset.mem_range.mp hj⟩ (0 : Fin 1))) (List.mem_finRange _))
    refine Eq.trans ?_ (window_entry p hp x b t c _ _).symm
    rw [Equiv.symm_apply_apply]
    rfl

/-- Padding by `24` rows of zeros on both sides, at an index. -/
theorem pad_apply (v : (⟨3, ![4, 512, 256]⟩ : Shape).Idx → EReal) (z : (⟨0, ![]⟩ : Shape).Idx → EReal) (hz : ∀ k, z k = 0)
    (h : (⟨3, ![4, 512, 256]⟩ : Shape).Pads ![0, 24, 0] ![0, 24, 0] ![0, 0, 0] ⟨3, ![4, 560, 256]⟩)
    (hu : 0 < (⟨0, ![]⟩ : Shape).numel) (H : Fin 4 → Fin 512 → Fin 256 → EReal) (hv : ∀ b t c, v (ix3 b t c) = H b t c)
    (b : Fin 4) (k : Fin 560) (c : Fin 256) :
    pad ⟨3, ![4, 560, 256]⟩ ![0, 24, 0] ![0, 24, 0] ![0, 0, 0] v z h hu (ix3 b k c) = padAt 0 (H b) k.val c := by
  unfold padAt
  by_cases hk : 24 ≤ k.val ∧ k.val < 536
  · rw [dif_pos hk, ← hv]
    refine pad_apply_of_inside _ _ _ v z h hu _ (ix3 b ⟨k.val - 24, by omega⟩ c) fun a => ?_
    match a with
    | ⟨0, _⟩ => show b.val = 0 + b.val * (0 + 1); omega
    | ⟨1, _⟩ => show k.val = 24 + (k.val - 24) * (0 + 1); omega
    | ⟨2, _⟩ => show c.val = 0 + c.val * (0 + 1); omega
  · rw [dif_neg hk]
    refine (pad_apply_of_not_inside _ _ _ v z h hu _ (1 : Fin 3) fun hh => hk ?_).trans (hz _)
    have h1 : 24 ≤ k.val ∧ (k.val - 24) % (0 + 1) = 0 ∧ (k.val - 24) / (0 + 1) < 512 := hh
    omega

/-- One tap: a window of a padded array times one slice of the weights, at an index. -/
theorem tap_apply (wf : DotDims.WF ⟨3, ![4, 512, 256]⟩ ⟨2, ![256, 256]⟩ ⟨3, ![4, 512, 256]⟩ [2] [1] [0, 1] [0] [] [])
    (P : (⟨3, ![4, 560, 256]⟩ : Shape).Idx → EReal) (H : Fin 4 → Fin 512 → Fin 256 → EReal) (hP : ∀ b k c, P (ix3 b k c) = padAt 0 (H b) k.val c)
    (w : (⟨3, ![256, 256, 3]⟩ : Shape).Idx → EReal) (s : ℕ) (hs : s ≤ 48) (j : Fin 3)
    (h : (⟨3, ![4, 560, 256]⟩ : Shape).Slices ![0, s, 0] ⟨3, ![4, 512, 256]⟩)
    (h' : (⟨3, ![256, 256, 3]⟩ : Shape).Slices ![0, 0, j.val] ⟨3, ![256, 256, 1]⟩)
    (hc : (⟨3, ![256, 256, 1]⟩ : Shape).ShapeCasts ⟨2, ![256, 256]⟩) (b : Fin 4) (t : Fin 512) (o : Fin 256) :
    Host.dotGeneral (F := Ideal) (φ₁ := .f32) (φ₂ := .f32) (rowsDims 256 256 wf) none (extractStridedSlice ⟨3, ![4, 512, 256]⟩ ![0, s, 0] P h)
        (shapeCast ⟨2, ![256, 256]⟩ (extractStridedSlice ⟨3, ![256, 256, 1]⟩ ![0, 0, j.val] w h') hc) (ix3 b t o)
      = tap (H b) (s + t.val) (fun c o => w (ix3 o c j)) o := by
  refine (dot_apply wf _ _ b t o).trans ?_
  unfold tap
  refine Finset.sum_congr rfl fun c _ => ?_
  have hts := t.isLt
  have e1 : extractStridedSlice ⟨3, ![4, 512, 256]⟩ ![0, s, 0] P h (ix3 b t c) = padAt 0 (H b) (s + t.val) c := by
    refine (extractStridedSlice_apply _ P h _ ( ix3 b (⟨s + t.val, by omega⟩ : Fin 560) c) fun a => ?_).trans (hP _ _ _)
    match a with
    | ⟨0, _⟩ => show b.val = 0 + b.val; omega
    | ⟨1, _⟩ => rfl
    | ⟨2, _⟩ => show c.val = 0 + c.val; omega
  have e2 : shapeCast ⟨2, ![256, 256]⟩ (extractStridedSlice ⟨3, ![256, 256, 1]⟩ ![0, 0, j.val] w h') hc (ix2 o c) = w (ix3 o c j) := by
    refine (shapeCast_apply _ hc (ix2 o c) (ix3 o c (0 : Fin 1)) (by rw [Shape.rowMajor_val_two, Shape.rowMajor_val_three]; simp)).trans ?_
    refine extractStridedSlice_apply _ w h' _ ( ix3 o c j) fun a => ?_
    match a with
    | ⟨0, _⟩ => show o.val = 0 + o.val; omega
    | ⟨1, _⟩ => show c.val = 0 + c.val; omega
    | ⟨2, _⟩ => show j.val = j.val + 0; omega
  rw [e1, e2]

/-- A vector repeated along the two leading axes, at an index. -/
theorem bias_apply {n : ℕ} (v : (⟨1, ![n]⟩ : Shape).Idx → EReal) (h : (⟨1, ![n]⟩ : Shape).BroadcastsInDim ⟨3, ![1, 1, n]⟩ ![2])
    (h' : (⟨3, ![1, 1, n]⟩ : Shape).BroadcastsInDim ⟨3, ![4, 512, n]⟩ ![0, 1, 2]) (hn : n ≠ 1) (b : Fin 4) (t : Fin 512) (o : Fin n) :
    broadcastInDim (⟨3, ![4, 512, n]⟩ : Shape) ![0, 1, 2] h' (broadcastInDim (⟨3, ![1, 1, n]⟩ : Shape) ![2] h v) (ix3 b t o) = v (ix1 o) := by
  refine (broadcastInDim_apply _ h' _ (ix3 b t o) (ix3 (0 : Fin 1) (0 : Fin 1) o) (by intro a; fin_cases a <;> simp [hn]; rfl)).trans ?_
  exact broadcastInDim_apply _ h v _ _ (by intro a; fin_cases a; simp [hn]; rfl)

/-- A whole three-tap convolution of an array, at an index. -/
theorem dilated_apply (H : Fin 4 → Fin 512 → Fin 256 → EReal) (w : (⟨3, ![256, 256, 3]⟩ : Shape).Idx → EReal)
    (v : (⟨1, ![256]⟩ : Shape).Idx → EReal) (d : ℕ)
    (s0 s1 s2 : (⟨3, ![4, 512, 256]⟩ : Shape).Idx → EReal) (bias : (⟨3, ![4, 512, 256]⟩ : Shape).Idx → EReal)
    (h0 : ∀ b t o, s0 (ix3 b t o) = tap (H b) (24 - d + t.val) (fun c o => w (ix3 o c 0)) o)
    (h1 : ∀ b t o, s1 (ix3 b t o) = tap (H b) (24 + t.val) (fun c o => w (ix3 o c 1)) o)
    (h2 : ∀ b t o, s2 (ix3 b t o) = tap (H b) (24 + d + t.val) (fun c o => w (ix3 o c 2)) o)
    (hb : ∀ b t o, bias (ix3 b t o) = v (ix1 o)) (b : Fin 4) (t : Fin 512) (o : Fin 256) :
    addf (F := Ideal) (φ := .f32) (addf (addf s0 s1) s2) bias (ix3 b t o)
      = dilated d (fun j c o => w (ix3 o c j)) (fun o => v (ix1 o)) (H b) t o := by
  show s0 _ + s1 _ + s2 _ + bias _ = _
  rw [h0, h1, h2, hb]
  rfl

end Cert.HostConv

end
-- ==== Proof.HostWindow.lean ====
module

public import proofs.«01_k».proof.Proof.HostConv

@[expose] public section

/-! # Whole arrays: the windows of rows around each time and the classifier on them, at an index -/

namespace Cert.HostWindow

open Idealize Idealize.ShloMosaic Idealize.ShloMosaic.ValueIdx
open Cert.Spec Cert.Results Cert.HostConv
open scoped BigOperators

/-- A small natural number read back from its word. -/
theorem word_toNat (k : ℕ) (hk : k < 2147483648) : (BitVec.ofNat 32 k).toInt.toNat = k := by
  have h : (BitVec.ofNat 32 k).toNat = k := by rw [BitVec.toNat_ofNat]; omega
  rw [BitVec.toInt_eq_toNat_of_lt (by rw [h]; omega), h]
  rfl

/-- The dimension numbers that take `fl` rows of a padded array for each time. -/
abbrev winDims (fl : ℕ) (wf : GatherDims.WF ⟨3, ![4, 560, 256]⟩ ⟨3, ![512, fl, 1]⟩ ⟨4, ![4, 512, fl, 256]⟩ [0, 3] [1] [] [1] [] 2 ![4, 1, 256]) :
    GatherDims ⟨3, ![4, 560, 256]⟩ ⟨3, ![512, fl, 1]⟩ ⟨4, ![4, 512, fl, 256]⟩ where
  offsetDims := [0, 3]
  collapsedSliceDims := [1]
  operandBatchingDims := []
  startIndicesBatchingDims := []
  startIndexMap := [1]
  indexVectorDim := 2
  sliceSizes := ![4, 1, 256]
  wf := wf

/-- The rows taken, at an index: the row that the index array names. -/
theorem window_apply (fl : ℕ) (wf : GatherDims.WF ⟨3, ![4, 560, 256]⟩ ⟨3, ![512, fl, 1]⟩ ⟨4, ![4, 512, fl, 256]⟩ [0, 3] [1] [] [1] [] 2 ![4, 1, 256])
    (P : (⟨3, ![4, 560, 256]⟩ : Shape).Idx → EReal) (idx : IVec ⟨3, ![512, fl, 1]⟩ 32) (b : Fin 4) (t : Fin 512) (j : Fin fl) (c : Fin 256)
    (k : Fin 560) (hk : idx (ix3 t j (0 : Fin 1)) = BitVec.ofNat 32 k.val) :
    Host.gather (winDims fl wf) P idx (ix4 b t j c) = P (ix3 b k c) := by
  unfold Host.gather
  refine congrArg P (funext fun a => Fin.ext ?_)
  show (winDims fl wf).start (ix4 b t j c) idx a + (winDims fl wf).batchCoord (ix4 b t j c) a + (winDims fl wf).offCoord (ix4 b t j c) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬(0 : Fin 3) ∈ (winDims fl wf).startIndexMap from (by decide : ¬(0 : Fin 3) ∈ [(1 : Fin 3)])), Nat.zero_add]
    rfl
  · rw [GatherDims.offCoord_eq_zero _ _ _ (fun h => ((GatherDims.mem_sKept _ _).mp h).1 (List.mem_singleton.mpr rfl)), Nat.add_zero]
    unfold GatherDims.start
    rw [dif_pos (show (1 : Fin 3) ∈ (winDims fl wf).startIndexMap from List.mem_singleton.mpr rfl)]
    have hsi : (winDims fl wf).siIdx (ix4 b t j c) ⟨List.idxOf (1 : Fin 3) (winDims fl wf).startIndexMap,
        List.idxOf_lt_length_iff.2 (List.mem_singleton.mpr rfl)⟩ = ix3 t j (0 : Fin 1) := by
      funext a; refine Fin.ext ?_
      match a with
      | ⟨0, _⟩ => rfl
      | ⟨1, _⟩ => rfl
      | ⟨2, _⟩ => rfl
    rw [hsi, hk]
    have hkl := k.isLt
    show min (BitVec.ofNat 32 k.val).toInt.toNat 559 = k.val
    rw [word_toNat _ (by omega)]; omega
  · unfold GatherDims.start GatherDims.offCoord
    rw [dif_neg (show ¬(2 : Fin 3) ∈ (winDims fl wf).startIndexMap from (by decide : ¬(2 : Fin 3) ∈ [(1 : Fin 3)])), Nat.zero_add]
    rfl

/-- A sum over the flat columns, window row by window row. -/
theorem sum_columns (fl : ℕ) (f : Fin (fl * 256) → EReal) : ∑ k, f k = ∑ j : Fin fl, ∑ c : Fin 256, f (column j c) := by
  rw [← Equiv.sum_comp finProdFinEquiv, Fintype.sum_prod_type]
  refine Finset.sum_congr rfl fun j _ => Finset.sum_congr rfl fun c _ => congrArg f (Fin.ext ?_)
  show c.val + 256 * j.val = j.val * 256 + c.val
  omega

/-- The classifier on the windows of a padded array, at an index. -/
theorem classify_apply (fl : ℕ) (hfl : fl ≤ 48)
    (wf : GatherDims.WF ⟨3, ![4, 560, 256]⟩ ⟨3, ![512, fl, 1]⟩ ⟨4, ![4, 512, fl, 256]⟩ [0, 3] [1] [] [1] [] 2 ![4, 1, 256])
    (wd : DotDims.WF ⟨3, ![4, 512, fl * 256]⟩ ⟨2, ![20, fl * 256]⟩ ⟨3, ![4, 512, 20]⟩ [2] [1] [0, 1] [0] [] [])
    (P : (⟨3, ![4, 560, 256]⟩ : Shape).Idx → EReal) (H : Fin 4 → Fin 512 → Fin 256 → EReal) (hP : ∀ b k c, P (ix3 b k c) = padAt 0 (H b) k.val c)
    (idx : IVec ⟨3, ![512, fl, 1]⟩ 32) (hidx : ∀ t j, idx (ix3 t j (0 : Fin 1)) = BitVec.ofNat 32 (25 - fl / 2 + j.val + t.val))
    (hc : (⟨4, ![4, 512, fl, 256]⟩ : Shape).ShapeCasts ⟨3, ![4, 512, fl * 256]⟩)
    (wc : (⟨2, ![20, fl * 256]⟩ : Shape).Idx → EReal) (v : (⟨1, ![20]⟩ : Shape).Idx → EReal)
    (bias zero : (⟨3, ![4, 512, 20]⟩ : Shape).Idx → EReal) (hb : ∀ b t n, bias (ix3 b t n) = v (ix1 n)) (hz : ∀ i, zero i = 0)
    (b : Fin 4) (t : Fin 512) (n : Fin 20) :
    maximumf (F := Ideal) (φ := .f32) (addf (Host.dotGeneral (F := Ideal) (φ₁ := .f32) (φ₂ := .f32) (rowsDims (fl * 256) 20 wd) none
        (shapeCast ⟨3, ![4, 512, fl * 256]⟩ (Host.gather (winDims fl wf) P idx) hc) wc) bias) zero (ix3 b t n)
      = classify fl (fun j c n => wc (ix2 n (column j c))) (fun n => v (ix1 n)) (H b) t n := by
  show max (Host.dotGeneral (F := Ideal) (φ₁ := .f32) (φ₂ := .f32) (rowsDims (fl * 256) 20 wd) none _ wc (ix3 b t n) + bias (ix3 b t n)) (zero (ix3 b t n)) = _
  rw [hb, hz, dot_apply, sum_columns]
  unfold classify tap
  refine congrArg (fun q => max (q + v (ix1 n)) 0) (Finset.sum_congr rfl fun j _ => Finset.sum_congr rfl fun c _ => ?_)
  have hj := j.isLt
  have ht := t.isLt
  refine congrArg (· * wc (ix2 n (column j c))) ?_
  refine (shapeCast_apply _ hc (ix3 b t (column j c)) (ix4 b t j c) ?_).trans ?_
  · rw [Shape.rowMajor_val_three, Shape.rowMajor_val_four]
    show ((b.val * 512 + t.val) * fl + j.val) * 256 + c.val = (b.val * 512 + t.val) * (fl * 256) + (j.val * 256 + c.val)
    ring
  · exact (window_apply fl wf P idx b t j c ⟨25 - fl / 2 + j.val + t.val, by omega⟩ (hidx t j)).trans (hP _ _ _)

end Cert.HostWindow

end
-- ==== Proof.RefBranch0.lean ====
module

public import proofs.«01_k».proof.Proof.Gen.ReferenceIdeal.Read
public import proofs.«01_k».proof.Proof.HostWindow

@[expose] public section

/-! # Branch 0 of the reference: its scores at an index

The pooled rows, the two convolutions, the positions of the windows and the classifier. -/

namespace Cert.RefBranch0

open Idealize Idealize.ShloMosaic Idealize.ShloMosaic.ValueIdx
open Cert.ReferenceIdeal Cert.ReferenceIdeal.Gen Cert.ReferenceIdeal.Read Cert.Spec Cert.Results Cert.HostConv Cert.HostWindow
open scoped BigOperators

variable (x : (⟨3, ![4, 512, 256]⟩ : Shape).Idx → EReal) (w : Weights 12)

/-- The pooled rows of one batch element. -/
noncomputable abbrev pooled (b : Fin 4) : Fin 512 → Fin 256 → EReal := pool 1 (fun t c => x (ix3 b t c))

/-- The first convolution of one batch element. -/
noncomputable abbrev first (b : Fin 4) : Fin 512 → Fin 256 → EReal :=
  dilated (2 * 1 + 1) (fun j c o => w.w1 (ix3 o c j)) (fun o => w.b1 (ix1 o)) (pooled x b)

/-- The second convolution of one batch element. -/
noncomputable abbrev second (b : Fin 4) : Fin 512 → Fin 256 → EReal :=
  dilated (4 * 1 + 1) (fun j c o => w.w2 (ix3 o c j)) (fun o => w.b2 (ix1 o)) (first x w b)

theorem pooled_apply (b : Fin 4) (t : Fin 512) (c : Fin 256) :
    val_main_v1 (F := Ideal) x (ix3 b t c) = pooled x b t c :=
  pool_apply 1 (by decide) x _ (fun _ => Cert.Padded.negInf) _ _ b t c

theorem line1_apply (b : Fin 4) (k : Fin 560) (c : Fin 256) :
    val_main_v2 (F := Ideal) x (ix3 b k c) = padAt 0 (pooled x b) k.val c :=
  pad_apply _ _ (fun _ => Ideal.ofBits_zero_f32) _ _ (pooled x) (pooled_apply x) b k c

theorem first_apply (b : Fin 4) (t : Fin 512) (o : Fin 256) :
    val_main_v19 (F := Ideal) x w.w1 w.b1 (ix3 b t o) = first x w b t o :=
  dilated_apply (pooled x) w.w1 w.b1 (2 * 1 + 1) _ _ _ _
    (fun b t o => tap_apply _ _ (pooled x) (line1_apply x) w.w1 21 (by decide) 0 _ _ _ b t o)
    (fun b t o => tap_apply _ _ (pooled x) (line1_apply x) w.w1 24 (by decide) 1 _ _ _ b t o)
    (fun b t o => tap_apply _ _ (pooled x) (line1_apply x) w.w1 27 (by decide) 2 _ _ _ b t o)
    (fun b t o => bias_apply w.b1 _ _ (by decide) b t o) b t o

theorem line2_apply (b : Fin 4) (k : Fin 560) (c : Fin 256) :
    val_main_v20 (F := Ideal) x w.w1 w.b1 (ix3 b k c) = padAt 0 (first x w b) k.val c :=
  pad_apply _ _ (fun _ => Ideal.ofBits_zero_f32) _ _ (first x w) (first_apply x w) b k c

theorem second_apply (b : Fin 4) (t : Fin 512) (o : Fin 256) :
    val_main_v37 (F := Ideal) x w.w1 w.b1 w.w2 w.b2 (ix3 b t o) = second x w b t o :=
  dilated_apply (first x w) w.w2 w.b2 (4 * 1 + 1) _ _ _ _
    (fun b t o => tap_apply _ _ (first x w) (line2_apply x w) w.w2 19 (by decide) 0 _ _ _ b t o)
    (fun b t o => tap_apply _ _ (first x w) (line2_apply x w) w.w2 24 (by decide) 1 _ _ _ b t o)
    (fun b t o => tap_apply _ _ (first x w) (line2_apply x w) w.w2 29 (by decide) 2 _ _ _ b t o)
    (fun b t o => bias_apply w.b2 _ _ (by decide) b t o) b t o

theorem line3_apply (b : Fin 4) (k : Fin 560) (c : Fin 256) :
    val_main_v49 (F := Ideal) x w.w1 w.b1 w.w2 w.b2 (ix3 b k c) = padAt 0 (second x w b) k.val c :=
  pad_apply _ _ (fun _ => Ideal.ofBits_zero_f32) _ _ (second x w) (second_apply x w) b k c

/-- The position of row `j` of the window around time `t` in the padded line. -/
theorem position_apply (t : Fin 512) (j : Fin 12) :
    val_main_v50 (F := Ideal) (ix3 t j (0 : Fin 1)) = BitVec.ofNat 32 (25 - 12 / 2 + j.val + t.val) := by
  have ht := t.isLt
  have hj := j.isLt
  show (BitVec.ofNat 32 t.val - 5#32 + 24#32) + BitVec.ofNat 32 j.val = _
  apply BitVec.eq_of_toNat_eq
  simp only [BitVec.toNat_add, BitVec.toNat_sub, BitVec.toNat_ofNat]
  omega

/-- The branch's scores at a batch element, a time and a class. -/
theorem scores_apply (b : Fin 4) (t : Fin 512) (n : Fin 20) :
    val_main_v58 (F := Ideal) x w.w1 w.b1 w.w2 w.b2 w.wc w.bc (ix3 b t n) = scored 1 12 x w b t n :=
  classify_apply 12 (by decide) _ _ _ (second x w) (line3_apply x w) _ position_apply _ w.wc w.bc _ _
    (fun b t n => bias_apply w.bc _ _ (by decide) b t n) (fun _ => Ideal.ofBits_zero_f32) b t n

end Cert.RefBranch0

end
-- ==== Proof.RefBranch1.lean ====
module

public import proofs.«01_k».proof.Proof.Gen.ReferenceIdeal.Read
public import proofs.«01_k».proof.Proof.HostWindow

@[expose] public section

/-! # Branch 1 of the reference: its scores at an index

The pooled rows, the two convolutions, the positions of the windows and the classifier. -/

namespace Cert.RefBranch1

open Idealize Idealize.ShloMosaic Idealize.ShloMosaic.ValueIdx
open Cert.ReferenceIdeal Cert.ReferenceIdeal.Gen Cert.ReferenceIdeal.Read Cert.Spec Cert.Results Cert.HostConv Cert.HostWindow
open scoped BigOperators

variable (x : (⟨3, ![4, 512, 256]⟩ : Shape).Idx → EReal) (w : Weights 24)

/-- The pooled rows of one batch element. -/
noncomputable abbrev pooled (b : Fin 4) : Fin 512 → Fin 256 → EReal := pool 2 (fun t c => x (ix3 b t c))

/-- The first convolution of one batch element. -/
noncomputable abbrev first (b : Fin 4) : Fin 512 → Fin 256 → EReal :=
  dilated (2 * 2 + 1) (fun j c o => w.w1 (ix3 o c j)) (fun o => w.b1 (ix1 o)) (pooled x b)

/-- The second convolution of one batch element. -/
noncomputable abbrev second (b : Fin 4) : Fin 512 → Fin 256 → EReal :=
  dilated (4 * 2 + 1) (fun j c o => w.w2 (ix3 o c j)) (fun o => w.b2 (ix1 o)) (first x w b)

theorem pooled_apply (b : Fin 4) (t : Fin 512) (c : Fin 256) :
    val_main_v60 (F := Ideal) x (ix3 b t c) = pooled x b t c :=
  pool_apply 2 (by decide) x _ (fun _ => Cert.Padded.negInf) _ _ b t c

theorem line1_apply (b : Fin 4) (k : Fin 560) (c : Fin 256) :
    val_main_v61 (F := Ideal) x (ix3 b k c) = padAt 0 (pooled x b) k.val c :=
  pad_apply _ _ (fun _ => Ideal.ofBits_zero_f32) _ _ (pooled x) (pooled_apply x) b k c

theorem first_apply (b : Fin 4) (t : Fin 512) (o : Fin 256) :
    val_main_v78 (F := Ideal) x w.w1 w.b1 (ix3 b t o) = first x w b t o :=
  dilated_apply (pooled x) w.w1 w.b1 (2 * 2 + 1) _ _ _ _
    (fun b t o => tap_apply _ _ (pooled x) (line1_apply x) w.w1 19 (by decide) 0 _ _ _ b t o)
    (fun b t o => tap_apply _ _ (pooled x) (line1_apply x) w.w1 24 (by decide) 1 _ _ _ b t o)
    (fun b t o => tap_apply _ _ (pooled x) (line1_apply x) w.w1 29 (by decide) 2 _ _ _ b t o)
    (fun b t o => bias_apply w.b1 _ _ (by decide) b t o) b t o

theorem line2_apply (b : Fin 4) (k : Fin 560) (c : Fin 256) :
    val_main_v79 (F := Ideal) x w.w1 w.b1 (ix3 b k c) = padAt 0 (first x w b) k.val c :=
  pad_apply _ _ (fun _ => Ideal.ofBits_zero_f32) _ _ (first x w) (first_apply x w) b k c

theorem second_apply (b : Fin 4) (t : Fin 512) (o : Fin 256) :
    val_main_v96 (F := Ideal) x w.w1 w.b1 w.w2 w.b2 (ix3 b t o) = second x w b t o :=
  dilated_apply (first x w) w.w2 w.b2 (4 * 2 + 1) _ _ _ _
    (fun b t o => tap_apply _ _ (first x w) (line2_apply x w) w.w2 15 (by decide) 0 _ _ _ b t o)
    (fun b t o => tap_apply _ _ (first x w) (line2_apply x w) w.w2 24 (by decide) 1 _ _ _ b t o)
    (fun b t o => tap_apply _ _ (first x w) (line2_apply x w) w.w2 33 (by decide) 2 _ _ _ b t o)
    (fun b t o => bias_apply w.b2 _ _ (by decide) b t o) b t o

theorem line3_apply (b : Fin 4) (k : Fin 560) (c : Fin 256) :
    val_main_v108 (F := Ideal) x w.w1 w.b1 w.w2 w.b2 (ix3 b k c) = padAt 0 (second x w b) k.val c :=
  pad_apply _ _ (fun _ => Ideal.ofBits_zero_f32) _ _ (second x w) (second_apply x w) b k c

/-- The position of row `j` of the window around time `t` in the padded line. -/
theorem position_apply (t : Fin 512) (j : Fin 24) :
    val_main_v109 (F := Ideal) (ix3 t j (0 : Fin 1)) = BitVec.ofNat 32 (25 - 24 / 2 + j.val + t.val) := by
  have ht := t.isLt
  have hj := j.isLt
  show (BitVec.ofNat 32 t.val - 11#32 + 24#32) + BitVec.ofNat 32 j.val = _
  apply BitVec.eq_of_toNat_eq
  simp only [BitVec.toNat_add, BitVec.toNat_sub, BitVec.toNat_ofNat]
  omega

/-- The branch's scores at a batch element, a time and a class. -/
theorem scores_apply (b : Fin 4) (t : Fin 512) (n : Fin 20) :
    val_main_v117 (F := Ideal) x w.w1 w.b1 w.w2 w.b2 w.wc w.bc (ix3 b t n) = scored 2 24 x w b t n :=
  classify_apply 24 (by decide) _ _ _ (second x w) (line3_apply x w) _ position_apply _ w.wc w.bc _ _
    (fun b t n => bias_apply w.bc _ _ (by decide) b t n) (fun _ => Ideal.ofBits_zero_f32) b t n

end Cert.RefBranch1

end
-- ==== Proof.RefBranch2.lean ====
module

public import proofs.«01_k».proof.Proof.Gen.ReferenceIdeal.Read
public import proofs.«01_k».proof.Proof.HostWindow

@[expose] public section

/-! # Branch 2 of the reference: its scores at an index

The pooled rows, the two convolutions, the positions of the windows and the classifier. -/

namespace Cert.RefBranch2

open Idealize Idealize.ShloMosaic Idealize.ShloMosaic.ValueIdx
open Cert.ReferenceIdeal Cert.ReferenceIdeal.Gen Cert.ReferenceIdeal.Read Cert.Spec Cert.Results Cert.HostConv Cert.HostWindow
open scoped BigOperators

variable (x : (⟨3, ![4, 512, 256]⟩ : Shape).Idx → EReal) (w : Weights 48)

/-- The pooled rows of one batch element. -/
noncomputable abbrev pooled (b : Fin 4) : Fin 512 → Fin 256 → EReal := pool 4 (fun t c => x (ix3 b t c))

/-- The first convolution of one batch element. -/
noncomputable abbrev first (b : Fin 4) : Fin 512 → Fin 256 → EReal :=
  dilated (2 * 4 + 1) (fun j c o => w.w1 (ix3 o c j)) (fun o => w.b1 (ix1 o)) (pooled x b)

/-- The second convolution of one batch element. -/
noncomputable abbrev second (b : Fin 4) : Fin 512 → Fin 256 → EReal :=
  dilated (4 * 4 + 1) (fun j c o => w.w2 (ix3 o c j)) (fun o => w.b2 (ix1 o)) (first x w b)

theorem pooled_apply (b : Fin 4) (t : Fin 512) (c : Fin 256) :
    val_main_v119 (F := Ideal) x (ix3 b t c) = pooled x b t c :=
  pool_apply 4 (by decide) x _ (fun _ => Cert.Padded.negInf) _ _ b t c

theorem line1_apply (b : Fin 4) (k : Fin 560) (c : Fin 256) :
    val_main_v120 (F := Ideal) x (ix3 b k c) = padAt 0 (pooled x b) k.val c :=
  pad_apply _ _ (fun _ => Ideal.ofBits_zero_f32) _ _ (pooled x) (pooled_apply x) b k c

theorem first_apply (b : Fin 4) (t : Fin 512) (o : Fin 256) :
    val_main_v137 (F := Ideal) x w.w1 w.b1 (ix3 b t o) = first x w b t o :=
  dilated_apply (pooled x) w.w1 w.b1 (2 * 4 + 1) _ _ _ _
    (fun b t o => tap_apply _ _ (pooled x) (line1_apply x) w.w1 15 (by decide) 0 _ _ _ b t o)
    (fun b t o => tap_apply _ _ (pooled x) (line1_apply x) w.w1 24 (by decide) 1 _ _ _ b t o)
    (fun b t o => tap_apply _ _ (pooled x) (line1_apply x) w.w1 33 (by decide) 2 _ _ _ b t o)
    (fun b t o => bias_apply w.b1 _ _ (by decide) b t o) b t o

theorem line2_apply (b : Fin 4) (k : Fin 560) (c : Fin 256) :
    val_main_v138 (F := Ideal) x w.w1 w.b1 (ix3 b k c) = padAt 0 (first x w b) k.val c :=
  pad_apply _ _ (fun _ => Ideal.ofBits_zero_f32) _ _ (first x w) (first_apply x w) b k c

theorem second_apply (b : Fin 4) (t : Fin 512) (o : Fin 256) :
    val_main_v155 (F := Ideal) x w.w1 w.b1 w.w2 w.b2 (ix3 b t o) = second x w b t o :=
  dilated_apply (first x w) w.w2 w.b2 (4 * 4 + 1) _ _ _ _
    (fun b t o => tap_apply _ _ (first x w) (line2_apply x w) w.w2 7 (by decide) 0 _ _ _ b t o)
    (fun b t o => tap_apply _ _ (first x w) (line2_apply x w) w.w2 24 (by decide) 1 _ _ _ b t o)
    (fun b t o => tap_apply _ _ (first x w) (line2_apply x w) w.w2 41 (by decide) 2 _ _ _ b t o)
    (fun b t o => bias_apply w.b2 _ _ (by decide) b t o) b t o

theorem line3_apply (b : Fin 4) (k : Fin 560) (c : Fin 256) :
    val_main_v167 (F := Ideal) x w.w1 w.b1 w.w2 w.b2 (ix3 b k c) = padAt 0 (second x w b) k.val c :=
  pad_apply _ _ (fun _ => Ideal.ofBits_zero_f32) _ _ (second x w) (second_apply x w) b k c

/-- The position of row `j` of the window around time `t` in the padded line. -/
theorem position_apply (t : Fin 512) (j : Fin 48) :
    val_main_v168 (F := Ideal) (ix3 t j (0 : Fin 1)) = BitVec.ofNat 32 (25 - 48 / 2 + j.val + t.val) := by
  have ht := t.isLt
  have hj := j.isLt
  show (BitVec.ofNat 32 t.val - 23#32 + 24#32) + BitVec.ofNat 32 j.val = _
  apply BitVec.eq_of_toNat_eq
  simp only [BitVec.toNat_add, BitVec.toNat_sub, BitVec.toNat_ofNat]
  omega

/-- The branch's scores at a batch element, a time and a class. -/
theorem scores_apply (b : Fin 4) (t : Fin 512) (n : Fin 20) :
    val_main_v176 (F := Ideal) x w.w1 w.b1 w.w2 w.b2 w.wc w.bc (ix3 b t n) = scored 4 48 x w b t n :=
  classify_apply 48 (by decide) _ _ _ (second x w) (line3_apply x w) _ position_apply _ w.wc w.bc _ _
    (fun b t n => bias_apply w.bc _ _ (by decide) b t n) (fun _ => Ideal.ofBits_zero_f32) b t n

end Cert.RefBranch2

end
-- ==== Proof.HostRank.lean ====
module

public import proofs.«01_k».proof.Proof.HostWindow
public import proofs.«01_k».proof.Proof.Stack

@[expose] public section

/-! # Whole arrays: the sort, the rows taken in its order, and the two ends of the order, at an index -/

namespace Cert.HostRank

open Idealize Idealize.ShloMosaic Idealize.ShloMosaic.ValueIdx
open Cert.Ranking Cert.HostWindow
open scoped BigOperators

abbrev Keys : Shape := ⟨3, ![3, 4, 512]⟩

/-- An ascending sort of the negated numbers, carrying the positions: at place `k` it shows the position that the ranking
puts there. -/
theorem sort_apply (cmp : Ideal .f32 × BitVec 32 → Ideal .f32 × BitVec 32 → BitVec 1)
    (hcmp : ∀ l r : Ideal .f32 × BitVec 32, cmp l r = BitVec.ofBool (decide ((l.1 : EReal) < r.1)))
    (x : Keys.Idx → EReal) (a : Fin 3 → Fin 4 → Fin 512 → EReal) (hx : ∀ i b t, x (ix3 i b t) = -a i b t)
    (y : Keys.Idx → BitVec 32) (hy : ∀ i b t, y (ix3 i b t) = BitVec.ofNat 32 t.val) (i : Fin 3) (b : Fin 4) (k : Fin 512) :
    (Host.sort2 Keys 2 cmp x y).2 (ix3 i b k) = BitVec.ofNat 32 (order (a i b) k).val := by
  have e : ∀ c : Fin 512, (ix3 i b k : Keys.Idx).along (2 : Fin 3) c = ix3 i b c := fun c => by
    funext q
    match q with
    | ⟨0, _⟩ => rfl
    | ⟨1, _⟩ => rfl
    | ⟨2, _⟩ => rfl
  have hs : sortedFrom (fun k' k'' : Fin 512 => cmp (x ((ix3 i b k : Keys.Idx).along (2 : Fin 3) k'), y ((ix3 i b k : Keys.Idx).along (2 : Fin 3) k'))
      (x ((ix3 i b k : Keys.Idx).along (2 : Fin 3) k''), y ((ix3 i b k : Keys.Idx).along (2 : Fin 3) k'')) == 1#1) k = order (a i b) k := by
    refine sortedFrom_eq_order (a i b) _ (fun s t => ?_) k
    rw [hcmp, e, e, hx, hx]
    simp only [EReal.neg_lt_neg_iff]
    by_cases h : a i b t < a i b s <;> simp [h]
  unfold Host.sort2
  rw [dif_pos (show 2 < Keys.rank by decide)]
  show y ((ix3 i b k : Keys.Idx).along (2 : Fin 3) (sortedFrom (fun k' k'' : Fin 512 => cmp (x ((ix3 i b k : Keys.Idx).along (2 : Fin 3) k'), y ((ix3 i b k : Keys.Idx).along (2 : Fin 3) k'))
      (x ((ix3 i b k : Keys.Idx).along (2 : Fin 3) k''), y ((ix3 i b k : Keys.Idx).along (2 : Fin 3) k'')) == 1#1) k)) = _
  exact (congrArg (fun c : Fin 512 => y ((ix3 i b k : Keys.Idx).along (2 : Fin 3) c)) hs).trans ((congrArg y (e _)).trans (hy _ _ _))

/-- A position is not negative, so no length is added to it. -/
theorem wrap_word (p : Fin 512) :
    Scalar.select (IntOp.cmpi .slt (BitVec.ofNat 32 p.val) 0#32) (IntOp.addi (BitVec.ofNat 32 p.val) 512#32) (BitVec.ofNat 32 p.val)
      = BitVec.ofNat 32 p.val := by
  revert p; decide +kernel

/-- The dimension numbers that take rows of the third axis, one position per place. -/
abbrev takeDims (n : ℕ) (wf : GatherDims.WF ⟨4, ![3, 4, 512, n]⟩ ⟨4, ![3, 4, 512, 1]⟩ ⟨4, ![3, 4, 512, n]⟩ [3] [2] [0, 1] [2] [0, 1] 3 ![1, 1, 1, n]) :
    GatherDims ⟨4, ![3, 4, 512, n]⟩ ⟨4, ![3, 4, 512, 1]⟩ ⟨4, ![3, 4, 512, n]⟩ where
  offsetDims := [3]
  collapsedSliceDims := [2]
  operandBatchingDims := [0, 1]
  startIndicesBatchingDims := [0, 1]
  startIndexMap := [2]
  indexVectorDim := 3
  sliceSizes := ![1, 1, 1, n]
  wf := wf

/-- The rows taken, at an index. -/
theorem take_apply {α : Type} (n : ℕ) (wf : GatherDims.WF ⟨4, ![3, 4, 512, n]⟩ ⟨4, ![3, 4, 512, 1]⟩ ⟨4, ![3, 4, 512, n]⟩ [3] [2] [0, 1] [2] [0, 1] 3 ![1, 1, 1, n])
    (x : (⟨4, ![3, 4, 512, n]⟩ : Shape).Idx → α) (idx : IVec ⟨4, ![3, 4, 512, 1]⟩ 32) (i : Fin 3) (b : Fin 4) (t : Fin 512) (e : Fin n)
    (k : Fin 512) (hk : idx (ix4 i b t (0 : Fin 1)) = BitVec.ofNat 32 k.val) :
    Host.gather (takeDims n wf) x idx (ix4 i b t e) = x (ix4 i b k e) := by
  unfold Host.gather
  refine congrArg x (funext fun a => Fin.ext ?_)
  show (takeDims n wf).start (ix4 i b t e) idx a + (takeDims n wf).batchCoord (ix4 i b t e) a + (takeDims n wf).offCoord (ix4 i b t e) a = _
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · rw [GatherDims.start_batching _ _ _ _ (show (0 : Fin 4) ∈ (takeDims n wf).operandBatchingDims from (by decide : (0 : Fin 4) ∈ [(0 : Fin 4), 1])),
      GatherDims.offCoord_eq_zero _ _ _ (fun h => ((GatherDims.mem_sKept _ _).mp h).2 (by decide : (0 : Fin 4) ∈ [(0 : Fin 4), 1]))]
    simp only [Nat.zero_add, Nat.add_zero]
    unfold GatherDims.batchCoord
    rw [dif_pos (show (0 : Fin 4) ∈ (takeDims n wf).operandBatchingDims from (by decide : (0 : Fin 4) ∈ [(0 : Fin 4), 1]))]
    rfl
  · rw [GatherDims.start_batching _ _ _ _ (show (1 : Fin 4) ∈ (takeDims n wf).operandBatchingDims from (by decide : (1 : Fin 4) ∈ [(0 : Fin 4), 1])),
      GatherDims.offCoord_eq_zero _ _ _ (fun h => ((GatherDims.mem_sKept _ _).mp h).2 (by decide : (1 : Fin 4) ∈ [(0 : Fin 4), 1]))]
    simp only [Nat.zero_add, Nat.add_zero]
    unfold GatherDims.batchCoord
    rw [dif_pos (show (1 : Fin 4) ∈ (takeDims n wf).operandBatchingDims from (by decide : (1 : Fin 4) ∈ [(0 : Fin 4), 1]))]
    rfl
  · rw [GatherDims.batchCoord_eq_zero _ _ _ (show ¬(2 : Fin 4) ∈ (takeDims n wf).operandBatchingDims from (by decide : ¬(2 : Fin 4) ∈ [(0 : Fin 4), 1])),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (takeDims n wf).startIndexMap from List.mem_singleton.mpr rfl)]
    have hsi : (takeDims n wf).siIdx (ix4 i b t e) ⟨List.idxOf (2 : Fin 4) (takeDims n wf).startIndexMap,
        List.idxOf_lt_length_iff.2 (List.mem_singleton.mpr rfl)⟩ = ix4 i b t (0 : Fin 1) := by
      funext a; refine Fin.ext ?_
      match a with
      | ⟨0, _⟩ => rfl
      | ⟨1, _⟩ => rfl
      | ⟨2, _⟩ => rfl
      | ⟨3, _⟩ => rfl
    rw [hsi, hk]
    have hkl := k.isLt
    show min (BitVec.ofNat 32 k.val).toInt.toNat 511 = k.val
    rw [word_toNat _ (by omega)]; omega
  · rw [GatherDims.batchCoord_eq_zero _ _ _ (show ¬(3 : Fin 4) ∈ (takeDims n wf).operandBatchingDims from (by decide : ¬(3 : Fin 4) ∈ [(0 : Fin 4), 1]))]
    unfold GatherDims.start GatherDims.offCoord
    rw [dif_neg (show ¬(3 : Fin 4) ∈ (takeDims n wf).startIndexMap from (by decide : ¬(3 : Fin 4) ∈ [(2 : Fin 4)])), Nat.zero_add]
    rfl

/-- The last quarter of the rows followed by the first quarter, at an index. -/
theorem ends_apply {α : Type} {n : ℕ} (s : (⟨4, ![3, 4, 512, n]⟩ : Shape).Idx → α)
    (h1 : (⟨4, ![3, 4, 512, n]⟩ : Shape).Slices ![0, 0, 384, 0] ⟨4, ![3, 4, 128, n]⟩)
    (h2 : (⟨4, ![3, 4, 512, n]⟩ : Shape).Slices ![0, 0, 0, 0] ⟨4, ![3, 4, 128, n]⟩)
    (h : Shape.Concatenates [(⟨4, ![3, 4, 128, n]⟩ : Shape), ⟨4, ![3, 4, 128, n]⟩] ⟨4, ![3, 4, 256, n]⟩ 2)
    (i : Fin 3) (b : Fin 4) (r : Fin 256) (e : Fin n) :
    concatenate (⟨4, ![3, 4, 256, n]⟩ : Shape) 2 [⟨⟨4, ![3, 4, 128, n]⟩, extractStridedSlice ⟨4, ![3, 4, 128, n]⟩ ![0, 0, 384, 0] s h1⟩,
        ⟨⟨4, ![3, 4, 128, n]⟩, extractStridedSlice ⟨4, ![3, 4, 128, n]⟩ ![0, 0, 0, 0] s h2⟩] h (ix4 i b r e)
      = s (ix4 i b (target r) e) := by
  have hr := r.isLt
  by_cases hlt : r.val < 128
  · refine (concatenate_apply_piece (t := ⟨4, ![3, 4, 256, n]⟩) (2 : Fin 4) [⟨⟨4, ![3, 4, 128, n]⟩, extractStridedSlice ⟨4, ![3, 4, 128, n]⟩ ![0, 0, 384, 0] s h1⟩,
        ⟨⟨4, ![3, 4, 128, n]⟩, extractStridedSlice ⟨4, ![3, 4, 128, n]⟩ ![0, 0, 0, 0] s h2⟩] h (ix4 i b r e) 0 (Nat.lt_of_sub_eq_succ rfl) _ _ rfl rfl 0 rfl
        (ix4 i b (⟨r.val, hlt⟩ : Fin 128) e) (fun a ha => ?_) (by show 0 + r.val = r.val; omega)).trans ?_
    · match a with
      | ⟨0, _⟩ => rfl
      | ⟨1, _⟩ => rfl
      | ⟨2, _⟩ => exact absurd rfl ha
      | ⟨3, _⟩ => rfl
    · refine extractStridedSlice_apply _ s h1 _ _ fun a => ?_
      match a with
      | ⟨0, _⟩ => show i.val = 0 + i.val; omega
      | ⟨1, _⟩ => show b.val = 0 + b.val; omega
      | ⟨2, _⟩ => show (target r).val = 384 + r.val; unfold target; rw [dif_pos hlt]; show r.val + 384 = 384 + r.val; omega
      | ⟨3, _⟩ => show e.val = 0 + e.val; omega
  · refine (concatenate_apply_piece (t := ⟨4, ![3, 4, 256, n]⟩) (2 : Fin 4) [⟨⟨4, ![3, 4, 128, n]⟩, extractStridedSlice ⟨4, ![3, 4, 128, n]⟩ ![0, 0, 384, 0] s h1⟩,
        ⟨⟨4, ![3, 4, 128, n]⟩, extractStridedSlice ⟨4, ![3, 4, 128, n]⟩ ![0, 0, 0, 0] s h2⟩] h (ix4 i b r e) 1 (Nat.lt_of_sub_eq_succ rfl) _ _ rfl rfl 128 rfl
        (ix4 i b (⟨r.val - 128, by omega⟩ : Fin 128) e) (fun a ha => ?_) (by show 128 + (r.val - 128) = r.val; omega)).trans ?_
    · match a with
      | ⟨0, _⟩ => rfl
      | ⟨1, _⟩ => rfl
      | ⟨2, _⟩ => exact absurd rfl ha
      | ⟨3, _⟩ => rfl
    · refine extractStridedSlice_apply _ s h2 _ _ fun a => ?_
      match a with
      | ⟨0, _⟩ => show i.val = 0 + i.val; omega
      | ⟨1, _⟩ => show b.val = 0 + b.val; omega
      | ⟨2, _⟩ => show (target r).val = 0 + (r.val - 128); unfold target; rw [dif_neg hlt]; show r.val - 128 = 0 + (r.val - 128); omega
      | ⟨3, _⟩ => show e.val = 0 + e.val; omega

/-- Two vectors as the two columns of an array, at an index. -/
theorem columns_apply {α : Type} (u v : (⟨1, ![512]⟩ : Shape).Idx → α) (h1 h2 : (⟨1, ![512]⟩ : Shape).BroadcastsInDim ⟨2, ![512, 1]⟩ ![0])
    (h : Shape.Concatenates [(⟨2, ![512, 1]⟩ : Shape), ⟨2, ![512, 1]⟩] ⟨2, ![512, 2]⟩ 1) (t : Fin 512) (e : Fin 2) :
    concatenate (⟨2, ![512, 2]⟩ : Shape) 1 [⟨⟨2, ![512, 1]⟩, broadcastInDim ⟨2, ![512, 1]⟩ ![0] h1 u⟩,
        ⟨⟨2, ![512, 1]⟩, broadcastInDim ⟨2, ![512, 1]⟩ ![0] h2 v⟩] h (ix2 t e) = (![u, v] : Fin 2 → _) e (ix1 t) := by
  match e with
  | ⟨0, _⟩ =>
    refine (concatenate_apply_piece (t := ⟨2, ![512, 2]⟩) (1 : Fin 2) [⟨⟨2, ![512, 1]⟩, broadcastInDim ⟨2, ![512, 1]⟩ ![0] h1 u⟩,
        ⟨⟨2, ![512, 1]⟩, broadcastInDim ⟨2, ![512, 1]⟩ ![0] h2 v⟩] h (ix2 t (0 : Fin 2)) 0 (Nat.lt_of_sub_eq_succ rfl) _ _ rfl rfl 0 rfl (ix2 t (0 : Fin 1)) (fun a ha => ?_) rfl).trans ?_
    · match a with
      | ⟨0, _⟩ => rfl
      | ⟨1, _⟩ => exact absurd rfl ha
    · exact broadcastInDim_apply _ h1 u _ (ix1 t) (by intro a; fin_cases a; rfl)
  | ⟨1, _⟩ =>
    refine (concatenate_apply_piece (t := ⟨2, ![512, 2]⟩) (1 : Fin 2) [⟨⟨2, ![512, 1]⟩, broadcastInDim ⟨2, ![512, 1]⟩ ![0] h1 u⟩,
        ⟨⟨2, ![512, 1]⟩, broadcastInDim ⟨2, ![512, 1]⟩ ![0] h2 v⟩] h (ix2 t (1 : Fin 2)) 1 (Nat.lt_of_sub_eq_succ rfl) _ _ rfl rfl 1 rfl (ix2 t (0 : Fin 1)) (fun a ha => ?_) rfl).trans ?_
    · match a with
      | ⟨0, _⟩ => rfl
      | ⟨1, _⟩ => exact absurd rfl ha
    · exact broadcastInDim_apply _ h2 v _ (ix1 t) (by intro a; fin_cases a; rfl)

/-- Three arrays joined along a new leading axis and repeated over the batch, at an index. -/
theorem layers_apply {α : Type} (v0 v1 v2 : (⟨2, ![512, 2]⟩ : Shape).Idx → α) (h0 h1 h2 : (⟨2, ![512, 2]⟩ : Shape).BroadcastsInDim ⟨3, ![1, 512, 2]⟩ ![1, 2])
    (h : Shape.Concatenates [(⟨3, ![1, 512, 2]⟩ : Shape), ⟨3, ![1, 512, 2]⟩, ⟨3, ![1, 512, 2]⟩] ⟨3, ![3, 512, 2]⟩ 0)
    (h3 : (⟨3, ![3, 512, 2]⟩ : Shape).BroadcastsInDim ⟨4, ![3, 1, 512, 2]⟩ ![0, 2, 3])
    (h4 : (⟨4, ![3, 1, 512, 2]⟩ : Shape).BroadcastsInDim ⟨4, ![3, 4, 512, 2]⟩ ![0, 1, 2, 3]) (i : Fin 3) (b : Fin 4) (t : Fin 512) (e : Fin 2) :
    broadcastInDim ⟨4, ![3, 4, 512, 2]⟩ ![0, 1, 2, 3] h4 (broadcastInDim ⟨4, ![3, 1, 512, 2]⟩ ![0, 2, 3] h3
      (concatenate (⟨3, ![3, 512, 2]⟩ : Shape) 0 [⟨⟨3, ![1, 512, 2]⟩, broadcastInDim ⟨3, ![1, 512, 2]⟩ ![1, 2] h0 v0⟩,
        ⟨⟨3, ![1, 512, 2]⟩, broadcastInDim ⟨3, ![1, 512, 2]⟩ ![1, 2] h1 v1⟩, ⟨⟨3, ![1, 512, 2]⟩, broadcastInDim ⟨3, ![1, 512, 2]⟩ ![1, 2] h2 v2⟩] h)) (ix4 i b t e)
      = (![v0, v1, v2] : Fin 3 → _) i (ix2 t e) := by
  refine (broadcastInDim_apply _ h4 _ _ (ix4 i (0 : Fin 1) t e) (by intro a; fin_cases a <;> rfl)).trans ?_
  refine (broadcastInDim_apply _ h3 _ _ (ix3 i t e) (by intro a; fin_cases a <;> rfl)).trans ?_
  match i with
  | ⟨0, _⟩ =>
    refine (concatenate_apply_piece (t := ⟨3, ![3, 512, 2]⟩) (0 : Fin 3) [⟨⟨3, ![1, 512, 2]⟩, broadcastInDim ⟨3, ![1, 512, 2]⟩ ![1, 2] h0 v0⟩,
        ⟨⟨3, ![1, 512, 2]⟩, broadcastInDim ⟨3, ![1, 512, 2]⟩ ![1, 2] h1 v1⟩, ⟨⟨3, ![1, 512, 2]⟩, broadcastInDim ⟨3, ![1, 512, 2]⟩ ![1, 2] h2 v2⟩] h (ix3 (0 : Fin 3) t e) 0 (Nat.lt_of_sub_eq_succ rfl) _ _ rfl rfl 0 rfl (ix3 (0 : Fin 1) t e) (fun a ha => ?_) rfl).trans ?_
    · match a with
      | ⟨0, _⟩ => exact absurd rfl ha
      | ⟨1, _⟩ => rfl
      | ⟨2, _⟩ => rfl
    · exact broadcastInDim_apply _ h0 v0 _ (ix2 t e) (by intro a; fin_cases a <;> rfl)
  | ⟨1, _⟩ =>
    refine (concatenate_apply_piece (t := ⟨3, ![3, 512, 2]⟩) (0 : Fin 3) [⟨⟨3, ![1, 512, 2]⟩, broadcastInDim ⟨3, ![1, 512, 2]⟩ ![1, 2] h0 v0⟩,
        ⟨⟨3, ![1, 512, 2]⟩, broadcastInDim ⟨3, ![1, 512, 2]⟩ ![1, 2] h1 v1⟩, ⟨⟨3, ![1, 512, 2]⟩, broadcastInDim ⟨3, ![1, 512, 2]⟩ ![1, 2] h2 v2⟩] h (ix3 (1 : Fin 3) t e) 1 (Nat.lt_of_sub_eq_succ rfl) _ _ rfl rfl 1 rfl (ix3 (0 : Fin 1) t e) (fun a ha => ?_) rfl).trans ?_
    · match a with
      | ⟨0, _⟩ => exact absurd rfl ha
      | ⟨1, _⟩ => rfl
      | ⟨2, _⟩ => rfl
    · exact broadcastInDim_apply _ h1 v1 _ (ix2 t e) (by intro a; fin_cases a <;> rfl)
  | ⟨2, _⟩ =>
    refine (concatenate_apply_piece (t := ⟨3, ![3, 512, 2]⟩) (0 : Fin 3) [⟨⟨3, ![1, 512, 2]⟩, broadcastInDim ⟨3, ![1, 512, 2]⟩ ![1, 2] h0 v0⟩,
        ⟨⟨3, ![1, 512, 2]⟩, broadcastInDim ⟨3, ![1, 512, 2]⟩ ![1, 2] h1 v1⟩, ⟨⟨3, ![1, 512, 2]⟩, broadcastInDim ⟨3, ![1, 512, 2]⟩ ![1, 2] h2 v2⟩] h (ix3 (2 : Fin 3) t e) 2 (Nat.lt_of_sub_eq_succ rfl) _ _ rfl rfl 2 rfl (ix3 (0 : Fin 1) t e) (fun a ha => ?_) rfl).trans ?_
    · match a with
      | ⟨0, _⟩ => exact absurd rfl ha
      | ⟨1, _⟩ => rfl
      | ⟨2, _⟩ => rfl
    · exact broadcastInDim_apply _ h2 v2 _ (ix2 t e) (by intro a; fin_cases a <;> rfl)

end Cert.HostRank

end
-- ==== Proof.RefScores.lean ====
module

public import proofs.«01_k».proof.Proof.RefBranch0
public import proofs.«01_k».proof.Proof.RefBranch1
public import proofs.«01_k».proof.Proof.RefBranch2
public import proofs.«01_k».proof.Proof.HostRank

@[expose] public section

/-! # The reference's scores of the three branches, stacked -/

namespace Cert.RefScores

open Idealize Idealize.ShloMosaic Idealize.ShloMosaic.ValueIdx
open Cert.ReferenceIdeal Cert.ReferenceIdeal.Gen Cert.ReferenceIdeal.Read Cert.Spec Cert.Results Cert.HostRank

/-- A stack of three arrays with a leading axis of one, each known at every index, is known at every index. -/
theorem stack_known (v0 v1 v2 : (⟨4, ![1, 4, 512, 20]⟩ : Shape).Idx → EReal) (s0 s1 s2 : Fin 4 → Fin 512 → Fin 20 → EReal)
    (h : Shape.Concatenates [(⟨4, ![1, 4, 512, 20]⟩ : Shape), ⟨4, ![1, 4, 512, 20]⟩, ⟨4, ![1, 4, 512, 20]⟩] ⟨4, ![3, 4, 512, 20]⟩ 0)
    (e0 : ∀ b t n, v0 (ix4 (0 : Fin 1) b t n) = s0 b t n) (e1 : ∀ b t n, v1 (ix4 (0 : Fin 1) b t n) = s1 b t n)
    (e2 : ∀ b t n, v2 (ix4 (0 : Fin 1) b t n) = s2 b t n) (i : Fin 3) (b : Fin 4) (t : Fin 512) (n : Fin 20) :
    concatenate (⟨4, ![3, 4, 512, 20]⟩ : Shape) 0 [⟨⟨4, ![1, 4, 512, 20]⟩, v0⟩, ⟨⟨4, ![1, 4, 512, 20]⟩, v1⟩, ⟨⟨4, ![1, 4, 512, 20]⟩, v2⟩] h (ix4 i b t n)
      = (![s0, s1, s2] : Fin 3 → _) i b t n := by
  refine (Cert.Stack.stack_apply v0 v1 v2 h i b t n).trans ?_
  match i with
  | ⟨0, _⟩ => exact e0 b t n
  | ⟨1, _⟩ => exact e1 b t n
  | ⟨2, _⟩ => exact e2 b t n

/-- An array known at every index is known with a leading axis of one. -/
theorem lead_known (v : (⟨3, ![4, 512, 20]⟩ : Shape).Idx → EReal) (s : Fin 4 → Fin 512 → Fin 20 → EReal)
    (h : (⟨3, ![4, 512, 20]⟩ : Shape).BroadcastsInDim ⟨4, ![1, 4, 512, 20]⟩ ![1, 2, 3]) (e : ∀ b t n, v (ix3 b t n) = s b t n) (b : Fin 4) (t : Fin 512) (n : Fin 20) :
    broadcastInDim (⟨4, ![1, 4, 512, 20]⟩ : Shape) ![1, 2, 3] h v (ix4 (0 : Fin 1) b t n) = s b t n :=
  (Cert.Stack.lead_apply v _ b t n).trans (e b t n)

variable (I : Inputs)

/-- The scores of the first branch, with a leading axis of one. -/
theorem lead0 (b : Fin 4) (t : Fin 512) (n : Fin 20) :
    val_main_v177 (F := Ideal) I.x I.first.w1 I.first.b1 I.first.w2 I.first.b2 I.first.wc I.first.bc (ix4 (0 : Fin 1) b t n) = scored 1 12 I.x I.first b t n := by
  have e := RefBranch0.scores_apply I.x I.first
  rw [val_main_v177]
  exact lead_known _ _ _ e b t n

/-- The scores of the second branch, with a leading axis of one. -/
theorem lead1 (b : Fin 4) (t : Fin 512) (n : Fin 20) :
    val_main_v178 (F := Ideal) I.x I.second.w1 I.second.b1 I.second.w2 I.second.b2 I.second.wc I.second.bc (ix4 (0 : Fin 1) b t n) = scored 2 24 I.x I.second b t n := by
  have e := RefBranch1.scores_apply I.x I.second
  rw [val_main_v178]
  exact lead_known _ _ _ e b t n

/-- The scores of the third branch, with a leading axis of one. -/
theorem lead2 (b : Fin 4) (t : Fin 512) (n : Fin 20) :
    val_main_v179 (F := Ideal) I.x I.third.w1 I.third.b1 I.third.w2 I.third.b2 I.third.wc I.third.bc (ix4 (0 : Fin 1) b t n) = scored 4 48 I.x I.third b t n := by
  have e := RefBranch2.scores_apply I.x I.third
  rw [val_main_v179]
  exact lead_known _ _ _ e b t n

/-- The scores of the three branches, stacked. -/
theorem all_apply (i : Fin 3) (b : Fin 4) (t : Fin 512) (n : Fin 20) :
    val_main_v180 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b t n) = all I i b t n := by
  have e0 := lead0 I
  have e1 := lead1 I
  have e2 := lead2 I
  rw [val_main_v180, all]
  exact stack_known _ _ _ _ _ _ _ e0 e1 e2 i b t n

end Cert.RefScores

end
-- ==== Proof.RefResults.lean ====
module

public import proofs.«01_k».proof.Proof.RefScores
public import proofs.«01_k».proof.Proof.HostRank

@[expose] public section

/-! # The reference's three results as functions of its arguments -/

namespace Cert.RefResults

open Idealize Idealize.ShloMosaic Idealize.ShloMosaic.ValueIdx
open Cert.RefScores Cert.ReferenceIdeal Cert.ReferenceIdeal.Gen Cert.ReferenceIdeal.Read Cert.Spec Cert.Results Cert.Ranking Cert.HostRank
open scoped BigOperators

variable (I : Inputs)

/-- The sum of a row's scores. -/
theorem activity_apply (i : Fin 3) (b : Fin 4) (t : Fin 512) :
    val_main_v181 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix3 i b t) = activity I i b t := by
  have e := all_apply I
  unfold val_main_v181
  generalize val_main_v180 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  exact (Cert.Stack.sum_apply v _ (fun _ => Ideal.ofBits_zero_f32) _ _ i b t).trans (Finset.sum_congr rfl fun n _ => e i b t n)

/-- The sort's comparison is the order of the extended reals. -/
theorem comparator_apply (l r : Ideal .f32 × BitVec 32) :
    comparator_f32_i32_d2 (F := Ideal) l r = BitVec.ofBool (decide ((l.1 : EReal) < r.1)) := by
  have key : ∀ a : EReal, Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32 : Ideal .f32)) (FloatOps.ofBits .f32 0x00000000#32 : Ideal .f32) a) = a := by
    intro a
    simp only [Ideal.cmpf_def, Ideal.ofBits_def, Ideal.ofBits_zero_f32]
    by_cases h : a = 0 <;> simp [Scalar.select, Ideal.cmp, h]
  unfold comparator_f32_i32_d2
  simp only [key, Ideal.cmpfTotal_def]
  rfl

/-- The position at each place of the ranking. -/
theorem order_apply (i : Fin 3) (b : Fin 4) (k : Fin 512) :
    val_main_v183 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix3 i b k) = BitVec.ofNat 32 (order (activity I i b) k).val := by
  have e := activity_apply I
  unfold val_main_v183 val_main_v182
  generalize val_main_v181 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  exact sort_apply _ comparator_apply _ (activity I) (fun i b t => congrArg (fun q : EReal => -q) (e i b t)) _ (fun _ _ _ => rfl) i b k

theorem place1_apply (i : Fin 3) (b : Fin 4) (k : Fin 512) :
    val_main_call1_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
  have e0 := order_apply I i b k
  have e : val_main_v240 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
    unfold val_main_v240
    generalize val_main_v183 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e0 ⊢
    exact (broadcastInDim_apply _ _ v _ (ix3 i b k) (by intro a; fin_cases a <;> rfl)).trans e0
  unfold val_main_call1_v4 val_main_call1_v3 val_main_call1_v1
  generalize val_main_v240 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  refine Eq.trans ?_ (wrap_word (order (activity I i b) k))
  rw [← e]
  rfl

theorem place2_apply (i : Fin 3) (b : Fin 4) (k : Fin 512) :
    val_main_call2_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
  have e0 := order_apply I i b k
  have e : val_main_v245 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
    unfold val_main_v245
    generalize val_main_v183 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e0 ⊢
    exact (broadcastInDim_apply _ _ v _ (ix3 i b k) (by intro a; fin_cases a <;> rfl)).trans e0
  unfold val_main_call2_v4 val_main_call2_v3 val_main_call2_v1
  generalize val_main_v245 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  refine Eq.trans ?_ (wrap_word (order (activity I i b) k))
  rw [← e]
  rfl

theorem place3_apply (i : Fin 3) (b : Fin 4) (k : Fin 512) :
    val_main_call3_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
  have e0 := order_apply I i b k
  have e : val_main_v250 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b k (0 : Fin 1)) = BitVec.ofNat 32 (order (activity I i b) k).val := by
    unfold val_main_v250
    generalize val_main_v183 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e0 ⊢
    exact (broadcastInDim_apply _ _ v _ (ix3 i b k) (by intro a; fin_cases a <;> rfl)).trans e0
  unfold val_main_call3_v4 val_main_call3_v3 val_main_call3_v1
  generalize val_main_v250 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  refine Eq.trans ?_ (wrap_word (order (activity I i b) k))
  rw [← e]
  rfl

/-- The anchor segments, before the ranking. -/
theorem anchors_all (i : Fin 3) (b : Fin 4) (t : Fin 512) (e : Fin 2) :
    val_main_v211 (F := Ideal) (ix4 i b t e) = BitVec.ofNat 32 t.val + edge 3 i e := by
  refine (layers_apply _ _ _ _ _ _ _ _ _ i b t e).trans ?_
  match i with
  | ⟨0, _⟩ =>
    refine (columns_apply _ _ _ _ concatenates_S512x1_S512x1_S512x2_d1 t e).trans ?_
    match e with
    | ⟨0, _⟩ =>
      show BitVec.ofNat 32 t.val - 2#32 = _
      rw [BitVec.sub_eq_add_neg]
      exact congrArg (BitVec.ofNat 32 t.val + ·) (by decide +kernel : -2#32 = edge 3 0 0)
    | ⟨1, _⟩ =>
      show BitVec.ofNat 32 t.val + 3#32 = _
      exact congrArg (BitVec.ofNat 32 t.val + ·) (by decide +kernel : 3#32 = edge 3 0 1)
  | ⟨1, _⟩ =>
    refine (columns_apply _ _ _ _ concatenates_S512x1_S512x1_S512x2_d1 t e).trans ?_
    match e with
    | ⟨0, _⟩ =>
      show BitVec.ofNat 32 t.val - 5#32 = _
      rw [BitVec.sub_eq_add_neg]
      exact congrArg (BitVec.ofNat 32 t.val + ·) (by decide +kernel : -5#32 = edge 3 1 0)
    | ⟨1, _⟩ =>
      show BitVec.ofNat 32 t.val + 6#32 = _
      exact congrArg (BitVec.ofNat 32 t.val + ·) (by decide +kernel : 6#32 = edge 3 1 1)
  | ⟨2, _⟩ =>
    refine (columns_apply _ _ _ _ concatenates_S512x1_S512x1_S512x2_d1 t e).trans ?_
    match e with
    | ⟨0, _⟩ =>
      show BitVec.ofNat 32 t.val - 11#32 = _
      rw [BitVec.sub_eq_add_neg]
      exact congrArg (BitVec.ofNat 32 t.val + ·) (by decide +kernel : -11#32 = edge 3 2 0)
    | ⟨1, _⟩ =>
      show BitVec.ofNat 32 t.val + 12#32 = _
      exact congrArg (BitVec.ofNat 32 t.val + ·) (by decide +kernel : 12#32 = edge 3 2 1)

/-- The context segments, before the ranking. -/
theorem context_all (i : Fin 3) (b : Fin 4) (t : Fin 512) (e : Fin 2) :
    val_main_v239 (F := Ideal) (ix4 i b t e) = BitVec.ofNat 32 t.val + edge 6 i e := by
  refine (layers_apply _ _ _ _ _ _ _ _ _ i b t e).trans ?_
  match i with
  | ⟨0, _⟩ =>
    refine (columns_apply _ _ _ _ concatenates_S512x1_S512x1_S512x2_d1 t e).trans ?_
    match e with
    | ⟨0, _⟩ =>
      show BitVec.ofNat 32 t.val - 5#32 = _
      rw [BitVec.sub_eq_add_neg]
      exact congrArg (BitVec.ofNat 32 t.val + ·) (by decide +kernel : -5#32 = edge 6 0 0)
    | ⟨1, _⟩ =>
      show BitVec.ofNat 32 t.val + 6#32 = _
      exact congrArg (BitVec.ofNat 32 t.val + ·) (by decide +kernel : 6#32 = edge 6 0 1)
  | ⟨1, _⟩ =>
    refine (columns_apply _ _ _ _ concatenates_S512x1_S512x1_S512x2_d1 t e).trans ?_
    match e with
    | ⟨0, _⟩ =>
      show BitVec.ofNat 32 t.val - 11#32 = _
      rw [BitVec.sub_eq_add_neg]
      exact congrArg (BitVec.ofNat 32 t.val + ·) (by decide +kernel : -11#32 = edge 6 1 0)
    | ⟨1, _⟩ =>
      show BitVec.ofNat 32 t.val + 12#32 = _
      exact congrArg (BitVec.ofNat 32 t.val + ·) (by decide +kernel : 12#32 = edge 6 1 1)
  | ⟨2, _⟩ =>
    refine (columns_apply _ _ _ _ concatenates_S512x1_S512x1_S512x2_d1 t e).trans ?_
    match e with
    | ⟨0, _⟩ =>
      show BitVec.ofNat 32 t.val - 23#32 = _
      rw [BitVec.sub_eq_add_neg]
      exact congrArg (BitVec.ofNat 32 t.val + ·) (by decide +kernel : -23#32 = edge 6 2 0)
    | ⟨1, _⟩ =>
      show BitVec.ofNat 32 t.val + 24#32 = _
      exact congrArg (BitVec.ofNat 32 t.val + ·) (by decide +kernel : 24#32 = edge 6 2 1)

/-- The rows of the first result in the order of the ranking. -/
theorem anchors_ranked (i : Fin 3) (b : Fin 4) (t : Fin 512) (e : Fin 2) :
    val_main_v241 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b t e) = val_main_v211 (F := Ideal) (ix4 i b (order (activity I i b) t) e) := by
  have h := place1_apply I i b t
  unfold val_main_v241
  generalize val_main_call1_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at h ⊢
  generalize val_main_v211 (F := Ideal) = w
  exact take_apply 2 _ w v i b t e _ h

/-- The first result. -/
theorem anchors_eq : val_main_v244 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = anchors I := by
  funext j
  have e := anchors_ranked I
  unfold val_main_v244 val_main_v243 val_main_v242
  generalize val_main_v241 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  rw [eq_ix4 j]
  refine (ends_apply v _ _ _ (j 0) (j 1) (j 2) (j 3)).trans ?_
  refine (e _ _ _ _).trans ?_
  exact anchors_all _ _ _ _

/-- The rows of the second result in the order of the ranking. -/
theorem context_ranked (i : Fin 3) (b : Fin 4) (t : Fin 512) (e : Fin 2) :
    val_main_v246 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b t e) = val_main_v239 (F := Ideal) (ix4 i b (order (activity I i b) t) e) := by
  have h := place2_apply I i b t
  unfold val_main_v246
  generalize val_main_call2_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at h ⊢
  generalize val_main_v239 (F := Ideal) = w
  exact take_apply 2 _ w v i b t e _ h

/-- The second result. -/
theorem context_eq : val_main_v249 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = context I := by
  funext j
  have e := context_ranked I
  unfold val_main_v249 val_main_v248 val_main_v247
  generalize val_main_v246 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  rw [eq_ix4 j]
  refine (ends_apply v _ _ _ (j 0) (j 1) (j 2) (j 3)).trans ?_
  refine (e _ _ _ _).trans ?_
  exact context_all _ _ _ _

/-- The rows of the third result in the order of the ranking. -/
theorem scores_ranked (i : Fin 3) (b : Fin 4) (t : Fin 512) (e : Fin 20) :
    val_main_v251 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b t e) = val_main_v180 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc (ix4 i b (order (activity I i b) t) e) := by
  have h := place3_apply I i b t
  unfold val_main_v251
  generalize val_main_call3_v4 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at h ⊢
  generalize val_main_v180 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = w
  exact take_apply 20 _ w v i b t e _ h

/-- The third result. -/
theorem scores_eq : val_main_v254 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = scores I := by
  funext j
  have e := scores_ranked I
  unfold val_main_v254 val_main_v253 val_main_v252
  generalize val_main_v251 (F := Ideal) I.x I.first.w1 I.first.b1 I.first.w2 I.first.b2 I.first.wc I.first.bc I.second.w1 I.second.b1 I.second.w2 I.second.b2 I.second.wc I.second.bc I.third.w1 I.third.b1 I.third.w2 I.third.b2 I.third.wc I.third.bc = v at e ⊢
  rw [eq_ix4 j]
  refine (ends_apply v _ _ _ (j 0) (j 1) (j 2) (j 3)).trans ?_
  refine (e _ _ _ _).trans ?_
  exact all_apply I _ _ _ _

end Cert.RefResults

end
-- ==== Proof.RefRun.lean ====
module

public import proofs.«01_k».proof.Proof.RefResults
public import proofs.«01_k».proof.Proof.Gen.ReferenceIdeal.Run

@[expose] public section

/-! # The reference's run: its results as functions of its arguments -/

namespace Cert.RefRun

open Idealize Idealize.SL.Sem Idealize.ShloMosaic Idealize.ShloMosaic.StableHlo
open Cert.ReferenceIdeal Cert.ReferenceIdeal.Gen Cert.ReferenceIdeal.Read Cert.Results

variable (m : (ℓ : Loc nD τ sig) → Buf (Elt Ideal) ℓ) (ρ : Dev nD → PrngReg)

/-- The arguments of a run of the reference. -/
def inputs (c : Dev nD) : Inputs where
  x := m ((c.tc : Thread nD τ).loc main_arg0)
  first := ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6)⟩
  second := ⟨m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12)⟩
  third := ⟨m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18)⟩

/-- The reference's three results as functions of its arguments, which end unchanged. -/
theorem run : θ_run defs (onTc (τ := τ) (main (F := Ideal))) ⟨m, fun _ => 0, ρ⟩ (fun r => ∀ c : Dev nD,
      r.2.mem ((c.tc : Thread nD τ).loc main_v244) = anchors (inputs m c)
      ∧ r.2.mem ((c.tc : Thread nD τ).loc main_v249) = context (inputs m c)
      ∧ r.2.mem ((c.tc : Thread nD τ).loc main_v254) = scores (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c).1.trans ((val_main_v244_eq (F := Ideal) (launchContents m c)).trans (RefResults.anchors_eq (inputs m c))),
     (h c).2.1.trans ((val_main_v249_eq (F := Ideal) (launchContents m c)).trans (RefResults.context_eq (inputs m c))),
     (h c).2.2.1.trans ((val_main_v254_eq (F := Ideal) (launchContents m c)).trans (RefResults.scores_eq (inputs m c))),
     (h c).2.2.2⟩) (Cert.ReferenceIdeal.Value.run (F := Ideal) m ρ)

end Cert.RefRun

end
-- ==== Proof.lean ====
/- The certificate: the frames of the kernel, of its idealization and of the reference, and the equality of all three results of the
   kernel, with every operation real, to those of the reference. -/
module

public import proofs.«01_k».proof.Defs
public import proofs.«01_k».proof.Proof.Gen.Kernel.Frame
public import proofs.«01_k».proof.Proof.Gen.KernelIdeal.Frame
public import proofs.«01_k».proof.Proof.KernelRun
public import proofs.«01_k».proof.Proof.RefRun
public import Idealize.ShloMosaic.Adequacy
public import Idealize.ShloMosaic.Init
public import Idealize.ShloMosaic.Lib.Quiescent

@[expose] public section

namespace Cert.Proof

open Idealize.ShloMosaic Idealize.SL.Sem

/-- The reference runs, leaves its arguments as launched, and every counter ends at zero: it declares no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- From the same arguments, the kernel and the reference end with the same three results. -/
theorem algebraic : Cert.algebraic_KernelIdeal_ReferenceIdeal := fun m g m' g' _ hargs => by
  have e : ∀ c, Cert.RefRun.inputs m' c = Cert.Fold.inputs m c := fun c => by
    obtain ⟨h0, h1, h2, h3, h4, h5, h6, h7, h8, h9, h10, h11, h12, h13, h14, h15, h16, h17, h18⟩ := hargs c
    unfold Cert.RefRun.inputs Cert.Fold.inputs
    rw [h0, h1, h2, h3, h4, h5, h6, h7, h8, h9, h10, h11, h12, h13, h14, h15, h16, h17, h18]
  refine ⟨fun c => Cert.Results.anchors (Cert.Fold.inputs m c), fun c => Cert.Results.context (Cert.Fold.inputs m c),
    fun c => Cert.Results.scores (Cert.Fold.inputs m c), Cert.KernelRun.run m g, ?_⟩
  refine (θ_run Cert.ReferenceIdeal.defs _ _).mono (fun r h c => ?_) (Cert.RefRun.run m' g')
  have hc := h c
  rw [e c] at hc
  exact hc

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
